-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_graph [hPre_graph : Cert.Pre_graph.Facts] (m : (ℓ : Loc Cert.KernelIdeal.nD Cert.KernelIdeal.τ Cert.KernelIdeal.sig) → Buf (Elt Ideal) ℓ) : Prop :=
  ∀ c : Dev Cert.KernelIdeal.nD,
    (Cert.Pre_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_graph [hPre_graph : Cert.Pre_graph.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_graph [hKernelIdeal : Cert.KernelIdeal.Facts] [hPre_graph : Cert.Pre_graph.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_graph m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_graph [hReferenceIdeal : Cert.ReferenceIdeal.Facts] [hPre_graph : Cert.Pre_graph.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_graph m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_graph [hKernelIdeal : Cert.KernelIdeal.Facts] [hReferenceIdeal : Cert.ReferenceIdeal.Facts] [hPre_graph : Cert.Pre_graph.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_graph m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_graph : Cert.Pre_graph.Facts),
    quiescent_Kernel (hKernel := hKernel)
    ∧ quiescent_KernelIdeal (hKernelIdeal := hKernelIdeal)
    ∧ quiescent_KernelIdeal_pre_graph (hKernelIdeal := hKernelIdeal) (hPre_graph := hPre_graph)
    ∧ quiescent_ReferenceIdeal (hReferenceIdeal := hReferenceIdeal)
    ∧ quiescent_ReferenceIdeal_pre_graph (hReferenceIdeal := hReferenceIdeal) (hPre_graph := hPre_graph)
    ∧ preserves_Kernel_KernelIdeal
    ∧ algebraic_KernelIdeal_ReferenceIdeal_pre_graph (hKernelIdeal := hKernelIdeal) (hReferenceIdeal := hReferenceIdeal) (hPre_graph := hPre_graph)
-- ==== Pre_graph.lean ====
abbrev S4096x128 : Shape := ⟨2, ![4096, 128]⟩
abbrev S4096x4096 : Shape := ⟨2, ![4096, 4096]⟩
abbrev S128x128 : Shape := ⟨2, ![128, 128]⟩
abbrev S2x64 : Shape := ⟨2, ![2, 64]⟩
abbrev S128x64 : Shape := ⟨2, ![128, 64]⟩
abbrev S1x64 : Shape := ⟨2, ![1, 64]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S2x64 : S_.BroadcastsInDim S2x64 (![] : Fin 0 → Fin S2x64.rank)
  reducesTo_S2x64_S_d0_1 : S2x64.ReducesTo [0, 1] S_
  bcast_S_S128x64 : S_.BroadcastsInDim S128x64 (![] : Fin 0 → Fin S128x64.rank)
  reducesTo_S128x64_S_d0_1 : S128x64.ReducesTo [0, 1] S_
  bcast_S_S1x64 : S_.BroadcastsInDim S1x64 (![] : Fin 0 → Fin S1x64.rank)
  reducesTo_S1x64_S_d0_1 : S1x64.ReducesTo [0, 1] S_
  bcast_S_S4096x4096 : S_.BroadcastsInDim S4096x4096 (![] : Fin 0 → Fin S4096x4096.rank)
  reducesTo_S4096x4096_S_d0_1 : S4096x4096.ReducesTo [0, 1] S_

variable [Facts]

def fn_part2 {F : FTy → Type} [FloatOps F] (main_arg1 : FVec F S4096x4096 .f32) (main_v33 : IVec S_ 1) : IVec S_ 1 :=
  let main_cst_12 : FVec F S_ .f32 := constant S_ .f32 0x00000000#32
  let main_v34 : FVec F S4096x4096 .f32 := broadcastInDim S4096x4096 ![] bcast_S_S4096x4096 main_cst_12
  let main_v35 : IVec S4096x4096 1 := cmpf .oeq main_arg1 main_v34
  let main_cst_13 : FVec F S_ .f32 := constant S_ .f32 0x3F800000#32
  let main_v36 : FVec F S4096x4096 .f32 := broadcastInDim S4096x4096 ![] bcast_S_S4096x4096 main_cst_13
  let main_v37 : IVec S4096x4096 1 := cmpf .oeq main_arg1 main_v36
  let main_v38 : IVec S4096x4096 1 := ori main_v35 main_v37
  let main_c_14 : IVec S_ 1 := constantI S_ 1 1#1
  let main_v39 : IVec S_ 1 := (fun x v => Host.reduce IntOp.andi x v reducesTo_S4096x4096_S_d0_1 h_S_) main_v38 main_c_14
  let main_v40 : IVec S_ 1 := andi main_v33 main_v39
  main_v40

def fn_part1 {F : FTy → Type} [FloatOps F] (main_arg1 : FVec F S4096x4096 .f32) (main_arg5 : FVec F S128x64 .f32) (main_arg6 : FVec F S1x64 .f32) (main_arg7 : FVec F S1x64 .f32) (main_v3 : IVec S_ 1) (main_v7 : IVec S_ 1) (main_v11 : IVec S_ 1) (main_v15 : IVec S_ 1) : IVec S_ 1 :=
  let main_v16 : FVec F S128x64 .f32 := Host.absf main_arg5
  let main_cst_6 : FVec F S_ .f32 := constant S_ .f32 0x7F800000#32
  let main_v17 : FVec F S128x64 .f32 := broadcastInDim S128x64 ![] bcast_S_S128x64 main_cst_6
  let main_v18 : IVec S128x64 1 := cmpf .olt main_v16 main_v17
  let main_c_7 : IVec S_ 1 := constantI S_ 1 1#1
  let main_v19 : IVec S_ 1 := (fun x v => Host.reduce IntOp.andi x v reducesTo_S128x64_S_d0_1 h_S_) main_v18 main_c_7
  let main_v20 : FVec F S1x64 .f32 := Host.absf main_arg6
  let main_cst_8 : FVec F S_ .f32 := constant S_ .f32 0x7F800000#32
  let main_v21 : FVec F S1x64 .f32 := broadcastInDim S1x64 ![] bcast_S_S1x64 main_cst_8
  let main_v22 : IVec S1x64 1 := cmpf .olt main_v20 main_v21
  let main_c_9 : IVec S_ 1 := constantI S_ 1 1#1
  let main_v23 : IVec S_ 1 := (fun x v => Host.reduce IntOp.andi x v reducesTo_S1x64_S_d0_1 h_S_) main_v22 main_c_9
  let main_v24 : FVec F S1x64 .f32 := Host.absf main_arg7
  let main_cst_10 : FVec F S_ .f32 := constant S_ .f32 0x7F800000#32
  let main_v25 : FVec F S1x64 .f32 := broadcastInDim S1x64 ![] bcast_S_S1x64 main_cst_10
  let main_v26 : IVec S1x64 1 := cmpf .olt main_v24 main_v25
  let main_c_11 : IVec S_ 1 := constantI S_ 1 1#1
  let main_v27 : IVec S_ 1 := (fun x v => Host.reduce IntOp.andi x v reducesTo_S1x64_S_d0_1 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  fn_part2 (F := F) main_arg1 main_v33

def fn {F : FTy → Type} [FloatOps F] (main_arg0 : FVec F S4096x128 .f32) (main_arg1 : FVec F S4096x4096 .f32) (main_arg2 : FVec F S128x128 .f32) (main_arg3 : FVec F S2x64 .f32) (main_arg4 : FVec F S2x64 .f32) (main_arg5 : FVec F S128x64 .f32) (main_arg6 : FVec F S1x64 .f32) (main_arg7 : FVec F S1x64 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : FVec F S2x64 .f32 := Host.absf main_arg3
  let main_cst_2 : FVec F S_ .f32 := constant S_ .f32 0x7F800000#32
  let main_v9 : FVec F S2x64 .f32 := broadcastInDim S2x64 ![] bcast_S_S2x64 main_cst_2
  let main_v10 : IVec S2x64 1 := cmpf .olt main_v8 main_v9
  let main_c_3 : IVec S_ 1 := constantI S_ 1 1#1
  let main_v11 : IVec S_ 1 := (fun x v => Host.reduce IntOp.andi x v reducesTo_S2x64_S_d0_1 h_S_) main_v10 main_c_3
  let main_v12 : FVec F S2x64 .f32 := Host.absf main_arg4
  let main_cst_4 : FVec F S_ .f32 := constant S_ .f32 0x7F800000#32
  let main_v13 : FVec F S2x64 .f32 := broadcastInDim S2x64 ![] bcast_S_S2x64 main_cst_4
  let main_v14 : IVec S2x64 1 := cmpf .olt main_v12 main_v13
  let main_c_5 : IVec S_ 1 := constantI S_ 1 1#1
  let main_v15 : IVec S_ 1 := (fun x v => Host.reduce IntOp.andi x v reducesTo_S2x64_S_d0_1 h_S_) main_v14 main_c_5
  fn_part1 (F := F) main_arg1 main_arg5 main_arg6 main_arg7 main_v3 main_v7 main_v11 main_v15
-- ==== Kernel.lean ====
abbrev S4096x128 : Shape := ⟨2, ![4096, 128]⟩
abbrev S4096x4096 : Shape := ⟨2, ![4096, 4096]⟩
abbrev S128x128 : Shape := ⟨2, ![128, 128]⟩
abbrev S2x64 : Shape := ⟨2, ![2, 64]⟩
abbrev S128x64 : Shape := ⟨2, ![128, 64]⟩
abbrev S1x64 : Shape := ⟨2, ![1, 64]⟩
abbrev S4096x2 : Shape := ⟨2, ![4096, 2]⟩
abbrev S2x4096 : Shape := ⟨2, ![2, 4096]⟩
abbrev S4096x64 : Shape := ⟨2, ![4096, 64]⟩
abbrev S4096x1 : Shape := ⟨2, ![4096, 1]⟩
abbrev S1x4096 : Shape := ⟨2, ![1, 4096]⟩
abbrev S262144x128 : Shape := ⟨2, ![262144, 128]⟩
abbrev S256x4096 : Shape := ⟨2, ![256, 4096]⟩
abbrev S256x2 : Shape := ⟨2, ![256, 2]⟩
abbrev S16384x128 : Shape := ⟨2, ![16384, 128]⟩
abbrev S256x128 : Shape := ⟨2, ![256, 128]⟩
abbrev S256x1 : Shape := ⟨2, ![256, 1]⟩
abbrev S256 : Shape := ⟨1, ![256]⟩
abbrev S256x64 : Shape := ⟨2, ![256, 64]⟩
abbrev S131072x128 : Shape := ⟨2, ![131072, 128]⟩
abbrev S64x4096 : Shape := ⟨2, ![64, 4096]⟩
abbrev S8192x128 : Shape := ⟨2, ![8192, 128]⟩
abbrev S64x256 : Shape := ⟨2, ![64, 256]⟩
abbrev S4096x32x2x128 : Shape := ⟨4, ![4096, 32, 2, 128]⟩
abbrev S4096x32x128x2 : Shape := ⟨4, ![4096, 32, 128, 2]⟩
abbrev S4096x4096x2 : Shape := ⟨3, ![4096, 4096, 2]⟩
abbrev S4096x4096x1 : Shape := ⟨3, ![4096, 4096, 1]⟩

abbrev nBuf : Space → Nat
  | .hbm => 23
  | .vmem => 34
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S128x128, .f32⟩
  | .hbm, ⟨3, _⟩ => ⟨S2x64, .f32⟩
  | .hbm, ⟨4, _⟩ => ⟨S2x64, .f32⟩
  | .hbm, ⟨5, _⟩ => ⟨S128x64, .f32⟩
  | .hbm, ⟨6, _⟩ => ⟨S1x64, .f32⟩
  | .hbm, ⟨7, _⟩ => ⟨S1x64, .f32⟩
  | .hbm, ⟨8, _⟩ => ⟨S4096x128, .f32⟩
  | .hbm, ⟨9, _⟩ => ⟨S4096x2, .f32⟩
  | .hbm, ⟨10, _⟩ => ⟨S2x4096, .f32⟩
  | .hbm, ⟨11, _⟩ => ⟨S262144x128, .f32⟩
  | .hbm, ⟨12, _⟩ => ⟨S4096x128, .f32⟩
  | .hbm, ⟨13, _⟩ => ⟨S4096x64, .f32⟩
  | .hbm, ⟨14, _⟩ => ⟨S4096x1, .f32⟩
  | .hbm, ⟨15, _⟩ => ⟨S1x4096, .f32⟩
  | .hbm, ⟨16, _⟩ => ⟨S131072x128, .f32⟩
  | .hbm, ⟨17, _⟩ => ⟨S64x4096, .f32⟩
  | .hbm, ⟨18, _⟩ => ⟨S4096x32x2x128, .f32⟩
  | .hbm, ⟨19, _⟩ => ⟨S4096x32x128x2, .f32⟩
  | .hbm, ⟨20, _⟩ => ⟨S4096x4096x2, .f32⟩
  | .hbm, ⟨21, _⟩ => ⟨S4096x4096x1, .f32⟩
  | .hbm, ⟨22, _⟩ => ⟨S4096x64, .f32⟩
  | .local _ .vmem, ⟨0, _⟩ => ⟨S4096x128, .f32⟩
  | .local _ .vmem, ⟨1, _⟩ => ⟨S128x128, .f32⟩
  | .local _ .vmem, ⟨2, _⟩ => ⟨S2x64, .f32⟩
  | .local _ .vmem, ⟨3, _⟩ => ⟨S2x64, .f32⟩
  | .local _ .vmem, ⟨4, _⟩ => ⟨S4096x128, .f32⟩
  | .local _ .vmem, ⟨5, _⟩ => ⟨S4096x2, .f32⟩
  | .local _ .vmem, ⟨6, _⟩ => ⟨S2x4096, .f32⟩
  | .local _ .vmem, ⟨7, _⟩ => ⟨S256x4096, .f32⟩
  | .local _ .vmem, ⟨8, _⟩ => ⟨S256x4096, .f32⟩
  | .local _ .vmem, ⟨9, _⟩ => ⟨S256x2, .f32⟩
  | .local _ .vmem, ⟨10, _⟩ => ⟨S256x2, .f32⟩
  | .local _ .vmem, ⟨11, _⟩ => ⟨S2x4096, .f32⟩
  | .local _ .vmem, ⟨12, _⟩ => ⟨S4096x128, .f32⟩
  | .local _ .vmem, ⟨13, _⟩ => ⟨S16384x128, .f32⟩
  | .local _ .vmem, ⟨14, _⟩ => ⟨S16384x128, .f32⟩
  | .local _ .vmem, ⟨15, _⟩ => ⟨S256x128, .f32⟩
  | .local _ .vmem, ⟨16, _⟩ => ⟨S256x128, .f32⟩
  | .local _ .vmem, ⟨17, _⟩ => ⟨S4096x128, .f32⟩
  | .local _ .vmem, ⟨18, _⟩ => ⟨S128x64, .f32⟩
  | .local _ .vmem, ⟨19, _⟩ => ⟨S1x64, .f32⟩
  | .local _ .vmem, ⟨20, _⟩ => ⟨S1x64, .f32⟩
  | .local _ .vmem, ⟨21, _⟩ => ⟨S4096x64, .f32⟩
  | .local _ .vmem, ⟨22, _⟩ => ⟨S4096x1, .f32⟩
  | .local _ .vmem, ⟨23, _⟩ => ⟨S1x4096, .f32⟩
  | .local _ .vmem, ⟨24, _⟩ => ⟨S256x4096, .f32⟩
  | .local _ .vmem, ⟨25, _⟩ => ⟨S256x4096, .f32⟩
  | .local _ .vmem, ⟨26, _⟩ => ⟨S256x1, .f32⟩
  | .local _ .vmem, ⟨27, _⟩ => ⟨S256x1, .f32⟩
  | .local _ .vmem, ⟨28, _⟩ => ⟨S1x4096, .f32⟩
  | .local _ .vmem, ⟨29, _⟩ => ⟨S4096x64, .f32⟩
  | .local _ .vmem, ⟨30, _⟩ => ⟨S8192x128, .f32⟩
  | .local _ .vmem, ⟨31, _⟩ => ⟨S8192x128, .f32⟩
  | .local _ .vmem, ⟨32, _⟩ => ⟨S64x256, .f32⟩
  | .local _ .vmem, ⟨33, _⟩ => ⟨S64x256, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v1_0 : Ref sig .tc := ⟨.hbm, 11, rfl⟩
abbrev main_v1_1 : Ref sig .tc := ⟨.hbm, 12, rfl⟩
abbrev main_v2_0 : Ref sig .tc := ⟨.hbm, 13, rfl⟩
abbrev main_v2_1 : Ref sig .tc := ⟨.hbm, 14, rfl⟩
abbrev main_v2_2 : Ref sig .tc := ⟨.hbm, 15, rfl⟩
abbrev main_v3_0 : Ref sig .tc := ⟨.hbm, 16, rfl⟩
abbrev main_v3_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc3_stg5_0 : Ref sig .tc := ⟨.vmem, 32, rfl⟩
abbrev cc3_stg5_1 : Ref sig .tc := ⟨.vmem, 33, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31
abbrev cc3_sem5_0 : DmaSem sig := 32
abbrev cc3_sem5_1 : DmaSem sig := 33

abbrev nD : Nat := 1
abbrev τ : Topo := Topo.v7x

variable {F : FTy → Type} [FloatOps F]

abbrev grid0 : Pipeline.Grid := .none

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S16384x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := .none

abbrev stage2_0 : Fin 1 → Memref sig .tc .vmem S4096x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S4096x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S4096x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S1x4096 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S256x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x4096 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S4096x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S8192x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S64x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S4096x128 : Shape := ⟨2, ![4096, 128]⟩
abbrev S4096x4096 : Shape := ⟨2, ![4096, 4096]⟩
abbrev S128x128 : Shape := ⟨2, ![128, 128]⟩
abbrev S2x64 : Shape := ⟨2, ![2, 64]⟩
abbrev S128x64 : Shape := ⟨2, ![128, 64]⟩
abbrev S1x64 : Shape := ⟨2, ![1, 64]⟩
abbrev S4096x2x64 : Shape := ⟨3, ![4096, 2, 64]⟩
abbrev S2x4096 : Shape := ⟨2, ![2, 4096]⟩
abbrev S4096x2 : Shape := ⟨2, ![4096, 2]⟩
abbrev S4096x1x2 : Shape := ⟨3, ![4096, 1, 2]⟩
abbrev S1x4096x2 : Shape := ⟨3, ![1, 4096, 2]⟩
abbrev S4096x4096x2 : Shape := ⟨3, ![4096, 4096, 2]⟩
abbrev S_ : Shape := ⟨0, ![]⟩
abbrev S4096 : Shape := ⟨1, ![4096]⟩
abbrev S4096x1 : Shape := ⟨2, ![4096, 1]⟩
abbrev S4096x4096x1 : Shape := ⟨3, ![4096, 4096, 1]⟩
abbrev S4096x1x1 : Shape := ⟨3, ![4096, 1, 1]⟩
abbrev S2x64x4096 : Shape := ⟨3, ![2, 64, 4096]⟩
abbrev S4096x64 : Shape := ⟨2, ![4096, 64]⟩
abbrev S4096x1x64 : Shape := ⟨3, ![4096, 1, 64]⟩
abbrev S1x4096 : Shape := ⟨2, ![1, 4096]⟩
abbrev S1x4096x1 : Shape := ⟨3, ![1, 4096, 1]⟩
abbrev S1x64x4096 : Shape := ⟨3, ![1, 64, 4096]⟩

abbrev nBuf : Space → Nat
  | .hbm => 130
  | .vmem => 0
  | .smem => 0
  | _ => 0

abbrev hbmTy0_0 (i : Nat) : BufTy := match i % 128 with
  | 0 => ⟨S4096x128, .f32⟩
  | 1 => ⟨S4096x4096, .f32⟩
  | 2 => ⟨S128x128, .f32⟩
  | 3 => ⟨S2x64, .f32⟩
  | 4 => ⟨S2x64, .f32⟩
  | 5 => ⟨S128x64, .f32⟩
  | 6 => ⟨S1x64, .f32⟩
  | 7 => ⟨S1x64, .f32⟩
  | 8 => ⟨S4096x128, .f32⟩
  | 9 => ⟨S4096x2x64, .f32⟩
  | 10 => ⟨S2x4096, .f32⟩
  | 11 => ⟨S4096x2, .f32⟩
  | 12 => ⟨S2x4096, .f32⟩
  | 13 => ⟨S4096x2, .f32⟩
  | 14 => ⟨S4096x1x2, .f32⟩
  | 15 => ⟨S1x4096x2, .f32⟩
  | 16 => ⟨S4096x4096x2, .f32⟩
  | 17 => ⟨S4096x4096x2, .f32⟩
  | 18 => ⟨S4096x4096x2, .f32⟩
  | 19 => ⟨S_, .f32⟩
  | 20 => ⟨S_, .f32⟩
  | 21 => ⟨S4096x4096x2, .f32⟩
  | 22 => ⟨S4096x4096x2, .i1⟩
  | 23 => ⟨S_, .f32⟩
  | 24 => ⟨S4096x4096x2, .f32⟩
  | 25 => ⟨S4096x4096x2, .f32⟩
  | 26 => ⟨S4096x4096x2, .f32⟩
  | 27 => ⟨S_, .f32⟩
  | 28 => ⟨S4096x4096, .f32⟩
  | 29 => ⟨S4096x4096, .i1⟩
  | 30 => ⟨S_, .i1⟩
  | 31 => ⟨S4096, .i1⟩
  | 32 => ⟨S4096x1, .i1⟩
  | 33 => ⟨S_, .f32⟩
  | 34 => ⟨S_, .f32⟩
  | 35 => ⟨S4096x1, .f32⟩
  | 36 => ⟨S4096x1, .f32⟩
  | 37 => ⟨S4096x1, .f32⟩
  | 38 => ⟨S4096x4096x1, .i1⟩
  | 39 => ⟨S4096x1x1, .f32⟩
  | 40 => ⟨S4096x4096x2, .i1⟩
  | 41 => ⟨S4096x4096x2, .f32⟩
  | 42 => ⟨S4096x4096x2, .f32⟩
  | 43 => ⟨S_, .f32⟩
  | 44 => ⟨S4096x2, .f32⟩
  | 45 => ⟨S_, .f32⟩
  | 46 => ⟨S4096x2, .f32⟩
  | 47 => ⟨S4096x2, .f32⟩
  | 48 => ⟨S4096x1x2, .f32⟩
  | 49 => ⟨S4096x4096x2, .f32⟩
  | 50 => ⟨S4096x4096x2, .f32⟩
  | 51 => ⟨S4096x4096x2, .f32⟩
  | 52 => ⟨S_, .f32⟩
  | 53 => ⟨S4096x2, .f32⟩
  | 54 => ⟨S4096x1x2, .f32⟩
  | 55 => ⟨S4096x4096x2, .f32⟩
  | 56 => ⟨S4096x4096x2, .f32⟩
  | 57 => ⟨S2x64x4096, .f32⟩
  | 58 => ⟨S4096x2x64, .f32⟩
  | 59 => ⟨S4096x128, .f32⟩
  | 60 => ⟨S_, .f32⟩
  | 61 => ⟨S4096x128, .f32⟩
  | 62 => ⟨S4096x128, .i1⟩
  | 63 => ⟨S_, .f32⟩
  | 64 => ⟨S4096x128, .f32⟩
  | 65 => ⟨S4096x128, .i1⟩
  | 66 => ⟨S_, .f32⟩
  | 67 => ⟨S_, .f32⟩
  | 68 => ⟨S4096x128, .f32⟩
  | 69 => ⟨S4096x128, .f32⟩
  | 70 => ⟨S4096x128, .f32⟩
  | 71 => ⟨S_, .f32⟩
  | 72 => ⟨S4096x128, .f32⟩
  | 73 => ⟨S4096x128, .f32⟩
  | 74 => ⟨S4096x128, .f32⟩
  | 75 => ⟨S4096x64, .f32⟩
  | 76 => ⟨S4096x1x64, .f32⟩
  | 77 => ⟨S1x4096, .f32⟩
  | 78 => ⟨S4096x1, .f32⟩
  | 79 => ⟨S1x4096, .f32⟩
  | 80 => ⟨S4096x1, .f32⟩
  | 81 => ⟨S4096x1x1, .f32⟩
  | 82 => ⟨S1x4096x1, .f32⟩
  | 83 => ⟨S4096x4096x1, .f32⟩
  | 84 => ⟨S4096x4096x1, .f32⟩
  | 85 => ⟨S4096x4096x1, .f32⟩
  | 86 => ⟨S_, .f32⟩
  | 87 => ⟨S_, .f32⟩
  | 88 => ⟨S4096x4096x1, .f32⟩
  | 89 => ⟨S4096x4096x1, .i1⟩
  | 90 => ⟨S_, .f32⟩
  | 91 => ⟨S4096x4096x1, .f32⟩
  | 92 => ⟨S4096x4096x1, .f32⟩
  | 93 => ⟨S4096x4096x1, .f32⟩
  | 94 => ⟨S_, .f32⟩
  | 95 => ⟨S4096x4096, .f32⟩
  | 96 => ⟨S4096x4096, .i1⟩
  | 97 => ⟨S_, .i1⟩
  | 98 => ⟨S4096, .i1⟩
  | 99 => ⟨S4096x1, .i1⟩
  | 100 => ⟨S_, .f32⟩
  | 101 => ⟨S_, .f32⟩
  | 102 => ⟨S4096x1, .f32⟩
  | 103 => ⟨S4096x1, .f32⟩
  | 104 => ⟨S4096x1, .f32⟩
  | 105 => ⟨S4096x4096x1, .i1⟩
  | 106 => ⟨S4096x1x1, .f32⟩
  | 107 => ⟨S4096x4096x1, .f32⟩
  | 108 => ⟨S4096x4096x1, .f32⟩
  | 109 => ⟨S_, .f32⟩
  | 110 => ⟨S4096x1, .f32⟩
  | 111 => ⟨S_, .f32⟩
  | 112 => ⟨S4096x1, .f32⟩
  | 113 => ⟨S4096x1, .f32⟩
  | 114 => ⟨S4096x1x1, .f32⟩
  | 115 => ⟨S4096x4096x1, .f32⟩
  | 116 => ⟨S4096x4096x1, .f32⟩
  | 117 => ⟨S4096x4096x1, .f32⟩
  | 118 => ⟨S_, .f32⟩
  | 119 => ⟨S4096x1, .f32⟩
  | 120 => ⟨S4096x1x1, .f32⟩
  | 121 => ⟨S4096x4096x1, .f32⟩
  | 122 => ⟨S4096x4096x1, .f32⟩
  | 123 => ⟨S1x64x4096, .f32⟩
  | 124 => ⟨S4096x1x64, .f32⟩
  | 125 => ⟨S_, .f32⟩
  | 126 => ⟨S4096x64, .f32⟩
  | 127 => ⟨S_, .f32⟩
  | _ => ⟨S4096x128, .f32⟩

abbrev hbmTy0_1 (i : Nat) : BufTy := match i % 128 with
  | 0 => ⟨S4096x64, .f32⟩
  | 1 => ⟨S4096x64, .f32⟩
  | _ => ⟨S4096x128, .f32⟩

abbrev hbmTy (i : Nat) : BufTy := match i / 128 with
  | 0 => hbmTy0_0 i
  | 1 => hbmTy0_1 i
  | _ => ⟨S4096x128, .f32⟩

abbrev bufTy : (tb : Table) → Fin (tcTables nBuf tb) → BufTy
  | .hbm, ⟨i, _⟩ => hbmTy i
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_cst_1 : Ref sig .tc := ⟨.hbm, 33, rfl⟩
abbrev main_cst_2 : Ref sig .tc := ⟨.hbm, 34, rfl⟩
abbrev main_call1_v0 : Ref sig .tc := ⟨.hbm, 35, rfl⟩
abbrev main_call1_v1 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_call2_v0 : Ref sig .tc := ⟨.hbm, 40, rfl⟩
abbrev main_call2_v1 : Ref sig .tc := ⟨.hbm, 41, rfl⟩
abbrev main_v19 : Ref sig .tc := ⟨.hbm, 42, rfl⟩
abbrev main_cst_3 : Ref sig .tc := ⟨.hbm, 43, rfl⟩
abbrev main_v20 : Ref sig .tc := ⟨.hbm, 44, rfl⟩
abbrev main_cst_4 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_5 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_call3_cst : Ref sig .tc := ⟨.hbm, 60, rfl⟩
abbrev main_call3_v0 : Ref sig .tc := ⟨.hbm, 61, rfl⟩
abbrev main_call3_v1 : Ref sig .tc := ⟨.hbm, 62, rfl⟩
abbrev main_call3_cst_0 : Ref sig .tc := ⟨.hbm, 63, rfl⟩
abbrev main_call3_v2 : Ref sig .tc := ⟨.hbm, 64, rfl⟩
abbrev main_call3_v3 : Ref sig .tc := ⟨.hbm, 65, rfl⟩
abbrev main_call3_cst_1 : Ref sig .tc := ⟨.hbm, 66, rfl⟩
abbrev main_call3_call0_v0 : Ref sig .tc := ⟨.hbm, 67, rfl⟩
abbrev main_call3_call0_v1 : Ref sig .tc := ⟨.hbm, 68, rfl⟩
abbrev main_call3_v4 : Ref sig .tc := ⟨.hbm, 69, rfl⟩
abbrev main_call3_v5 : Ref sig .tc := ⟨.hbm, 70, rfl⟩
abbrev main_call3_cst_2 : Ref sig .tc := ⟨.hbm, 71, rfl⟩
abbrev main_call3_v6 : Ref sig .tc := ⟨.hbm, 72, rfl⟩
abbrev main_call3_v7 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_cst_6 : Ref sig .tc := ⟨.hbm, 86, rfl⟩
abbrev main_call4_cst : Ref sig .tc := ⟨.hbm, 87, rfl⟩
abbrev main_call4_v0 : Ref sig .tc := ⟨.hbm, 88, rfl⟩
abbrev main_call4_v1 : Ref sig .tc := ⟨.hbm, 89, rfl⟩
abbrev main_call4_v2 : Ref sig .tc := ⟨.hbm, 90, rfl⟩
abbrev main_call4_v3 : Ref sig .tc := ⟨.hbm, 91, rfl⟩
abbrev main_call4_v4 : Ref sig .tc := ⟨.hbm, 92, rfl⟩
abbrev main_v46 : Ref sig .tc := ⟨.hbm, 93, rfl⟩
abbrev main_cst_7 : Ref sig .tc := ⟨.hbm, 94, rfl⟩
abbrev main_v47 : Ref sig .tc := ⟨.hbm, 95, rfl⟩
abbrev main_v48 : Ref sig .tc := ⟨.hbm, 96, rfl⟩
abbrev main_c_8 : Ref sig .tc := ⟨.hbm, 97, rfl⟩
abbrev main_v49 : Ref sig .tc := ⟨.hbm, 98, rfl⟩
abbrev main_v50 : Ref sig .tc := ⟨.hbm, 99, rfl⟩
abbrev main_cst_9 : Ref sig .tc := ⟨.hbm, 100, rfl⟩
abbrev main_cst_10 : Ref sig .tc := ⟨.hbm, 101, rfl⟩
abbrev main_call5_v0 : Ref sig .tc := ⟨.hbm, 102, rfl⟩
abbrev main_call5_v1 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_call6_v0 : Ref sig .tc := ⟨.hbm, 107, rfl⟩
abbrev main_v54 : Ref sig .tc := ⟨.hbm, 108, rfl⟩
abbrev main_cst_11 : Ref sig .tc := ⟨.hbm, 109, rfl⟩
abbrev main_v55 : Ref sig .tc := ⟨.hbm, 110, rfl⟩
abbrev main_cst_12 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_cst_13 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_cst_14 : Ref sig .tc := ⟨.hbm, 125, rfl⟩
abbrev main_v68 : Ref sig .tc := ⟨.hbm, 126, rfl⟩
abbrev main_cst_15 : Ref sig .tc := ⟨.hbm, 127, rfl⟩
abbrev main_v69 : Ref sig .tc := ⟨.hbm, 128, rfl⟩
abbrev main_v70 : Ref sig .tc := ⟨.hbm, 129, rfl⟩

abbrev nD : Nat := 1
abbrev τ : Topo := Topo.v7x

variable {F : FTy → Type} [FloatOps F]
-- ==== Proof.Blocks.lean ====
/- What the four kernel bodies leave in their output blocks, as functions of the blocks they read, and how a list of stores adds up to
   such a function: one store over the whole block, and the interleaved strided stores of the two attention kernels. -/
module

public import proofs.«01_k».proof.Proof.Gen.KernelIdeal.Skeleton
public import Idealize.ShloMosaic.Lib.Pipeline.FrameBody
public import Idealize.ShloMosaic.Lib.Writes
public import Idealize.ShloMosaic.Lib.ValueIdxCore

@[expose] public section

set_option maxRecDepth 16384

noncomputable section

namespace Cert.Gat

open Idealize.ShloMosaic Cert.KernelIdeal Cert.KernelIdeal.Gen
open Idealize.ShloMosaic.ValueIdx (ix2 eq_ix2)

section Stores
variable {sig : RefSig} {κ : Kind} {sp : Space} {s : Shape} {e : EltTy} {Val : EltTy → Type}

/-- One store whose rectangle is the whole block leaves its payload. -/
theorem read_one (v : View sig κ sp s e) (f : v.ty.Contents Val) (off : Fin s.rank → ℕ) (inb : ∀ a, off a + s.size a ≤ s.size a)
    (w : s.Idx → Val e) : v.read Val (v.writes Val f [⟨Rect.unit off s.size inb, w⟩]) = w := by
  have h0 : ∀ a, off a = 0 := fun a => by have := inb a; omega
  have hemb : ∀ x : s.Idx, (Rect.unit off s.size inb).emb x = x := fun x => by
    refine funext fun a => Fin.ext ?_
    show off a + 1 * (x a).val = (x a).val
    rw [h0 a]; omega
  refine funext fun y => ?_
  refine View.read_writes_apply_of_pieces v f w _ ?_ y ?_
  · intro p hp x
    obtain rfl := List.mem_singleton.mp hp
    exact congrArg w (hemb x).symm
  · exact ⟨_, List.mem_singleton.mpr rfl, (Rect.unit off s.size inb).mem_set.mpr fun a => ⟨(y a).val, (y a).isLt, by
      show (y a).val = off a + 1 * (y a).val
      rw [h0 a]; omega⟩⟩

/-- A load of the whole block reads its contents. -/
theorem readAt_whole (v : View sig κ sp s e) (f : v.ty.Contents Val) (off : Fin s.rank → ℕ) (inb : ∀ a, off a + s.size a ≤ s.size a) :
    View.readAt Val v (Rect.unit off s.size inb).toLoadRect f = v.read Val f := by
  have h0 : ∀ a, off a = 0 := fun a => by have := inb a; omega
  refine funext fun x => congrArg (v.read Val f) (funext fun a => Fin.ext ?_)
  show off a + 1 * (x a).val = (x a).val
  rw [h0 a]; omega

end Stores

section Weave
variable {F : FTy → Type} [FloatOps F] [Named F]

/-- The column tiles of a row block, last first: the order in which their stores are listed. -/
def tiles : List (Fin 32) :=
  [31, 30, 29, 28, 27, 26, 25, 24, 23, 22, 21, 20, 19, 18, 17, 16, 15, 14, 13, 12, 11, 10, 9, 8, 7, 6, 5, 4, 3, 2, 1, 0]

theorem mem_tiles : ∀ j : Fin 32, j ∈ tiles := by decide

/-- The store of column tile `j` of head `k`: 128 columns of the coefficients, row `i` of them put at row `64 i + 2 j + k`. -/
def strip2 (k : Fin 2) (a : Vec F S256x4096 .f32) (j : Fin 32) : View.Piece (Elt F) S16384x128 .f32 :=
  ⟨⟨⟨![2 * j.val + k.val, 0], S256x128.size, ![64, 1], Fin.forall_fin_two.mpr ⟨.inr (by show 2 * j.val + k.val + 64 * 255 < 16384; omega), .inr (by show 0 + 1 * 127 < 128; decide)⟩⟩, spos_64_1⟩,
    extractStridedSlice S256x128 ![0, 128 * j.val] a
      ⟨rfl, Fin.forall_fin_two.mpr ⟨by show 0 + 256 ≤ 256; decide, by show 128 * j.val + 128 ≤ 4096; omega⟩⟩⟩

/-- The store of column tile `j` of the one head: row `i` put at row `32 i + j`. -/
def strip1 (a : Vec F S256x4096 .f32) (j : Fin 32) : View.Piece (Elt F) S8192x128 .f32 :=
  ⟨⟨⟨![j.val, 0], S256x128.size, ![32, 1], Fin.forall_fin_two.mpr ⟨.inr (by show j.val + 32 * 255 < 8192; omega), .inr (by show 0 + 1 * 127 < 128; decide)⟩⟩, spos_32_1⟩,
    extractStridedSlice S256x128 ![0, 128 * j.val] a
      ⟨rfl, Fin.forall_fin_two.mpr ⟨by show 0 + 256 ≤ 256; decide, by show 128 * j.val + 128 ≤ 4096; omega⟩⟩⟩

/-- Two heads' coefficients of 256 rows laid out by (row, column tile, head) down and by column within the tile across. -/
def weave2 (a0 a1 : Vec F S256x4096 .f32) : Vec F S16384x128 .f32 := fun y =>
  (if (y 0).val % 2 = 0 then a0 else a1)
    (ix2 (⟨(y 0).val / 64, by have h : (y 0).val < 16384 := (y 0).isLt; omega⟩ : Fin 256)
      (⟨128 * ((y 0).val % 64 / 2) + (y 1).val, by have h : (y 1).val < 128 := (y 1).isLt; omega⟩ : Fin 4096))

/-- One head's coefficients of 256 rows laid out by (row, column tile) down and by column within the tile across. -/
def weave1 (a : Vec F S256x4096 .f32) : Vec F S8192x128 .f32 := fun y =>
  a (ix2 (⟨(y 0).val / 32, by have h : (y 0).val < 8192 := (y 0).isLt; omega⟩ : Fin 256)
      (⟨128 * ((y 0).val % 32) + (y 1).val, by have h : (y 1).val < 128 := (y 1).isLt; omega⟩ : Fin 4096))

theorem ix2_ext {n0 n1 : ℕ} {x y : (⟨2, ![n0, n1]⟩ : Shape).Idx} (h0 : (x 0).val = (y 0).val) (h1 : (x 1).val = (y 1).val) : x = y := by
  rw [eq_ix2 x, eq_ix2 y, Fin.ext h0, Fin.ext h1]

/-- Every strip of head `k` agrees with the interleaved block. -/
theorem strip2_eq (a0 a1 : Vec F S256x4096 .f32) (k : Fin 2) (j : Fin 32) (x : S256x128.Idx) :
    (strip2 k (if k.val = 0 then a0 else a1) j).2 x = weave2 a0 a1 ((strip2 k (if k.val = 0 then a0 else a1) j).1.emb x) := by
  have hx : (x 1).val < 128 := (x 1).isLt
  have e0 : (((strip2 k (if k.val = 0 then a0 else a1) j).1.emb x) 0).val = 2 * j.val + k.val + 64 * (x 0).val := rfl
  have e1 : (((strip2 k (if k.val = 0 then a0 else a1) j).1.emb x) 1).val = 0 + 1 * (x 1).val := rfl
  unfold weave2
  have hk : (2 * j.val + k.val + 64 * (x 0).val) % 2 = k.val := by omega
  rw [show (((strip2 k (if k.val = 0 then a0 else a1) j).1.emb x) 0).val % 2 = k.val from hk]
  refine congrArg (if k.val = 0 then a0 else a1) (ix2_ext ?_ ?_)
  · show 0 + (x 0).val = (2 * j.val + k.val + 64 * (x 0).val) / 64
    omega
  · show 128 * j.val + (x 1).val = 128 * ((2 * j.val + k.val + 64 * (x 0).val) % 64 / 2) + (0 + 1 * (x 1).val)
    omega

/-- The stores of both heads' strips leave the interleaved block. -/
theorem read_weave2 {sig : RefSig} {κ : Kind} {sp : Space} (v : View sig κ sp S16384x128 .f32) (f : v.ty.Contents (Elt F))
    (a0 a1 : Vec F S256x4096 .f32) :
    v.read (Elt F) (v.writes (Elt F) f (tiles.map (strip2 1 a1) ++ tiles.map (strip2 0 a0))) = weave2 a0 a1 := by
  refine funext fun y => View.read_writes_apply_of_pieces v f (weave2 a0 a1) _ ?_ y ?_
  · intro p hp x
    rcases List.mem_append.mp hp with h | h <;> obtain ⟨j, -, rfl⟩ := List.mem_map.mp h
    · exact strip2_eq a0 a1 1 j x
    · exact strip2_eq a0 a1 0 j x
  · have h0 : (y 0).val < 16384 := (y 0).isLt
    have h1 : (y 1).val < 128 := (y 1).isLt
    have hj : (y 0).val % 64 / 2 < 32 := by omega
    have key : ∀ (k : Fin 2) (a : Vec F S256x4096 .f32), (y 0).val % 2 = k.val → y ∈ (strip2 (F := F) k a ⟨_, hj⟩).1.set := fun k a hk =>
      (strip2 k a ⟨_, hj⟩).1.mem_set.mpr (Fin.forall_fin_two.mpr ⟨⟨(y 0).val / 64, by show _ < 256; omega, by
        show (y 0).val = 2 * ((y 0).val % 64 / 2) + k.val + 64 * ((y 0).val / 64); omega⟩,
        ⟨(y 1).val, h1, by show (y 1).val = 0 + 1 * (y 1).val; omega⟩⟩)
    rcases Nat.mod_two_eq_zero_or_one (y 0).val with h | h
    · exact ⟨_, List.mem_append.mpr (.inr (List.mem_map.mpr ⟨⟨_, hj⟩, mem_tiles _, rfl⟩)), key 0 a0 h⟩
    · exact ⟨_, List.mem_append.mpr (.inl (List.mem_map.mpr ⟨⟨_, hj⟩, mem_tiles _, rfl⟩)), key 1 a1 h⟩

/-- The stores of the one head's strips leave its interleaved block. -/
theorem read_weave1 {sig : RefSig} {κ : Kind} {sp : Space} (v : View sig κ sp S8192x128 .f32) (f : v.ty.Contents (Elt F))
    (a : Vec F S256x4096 .f32) :
    v.read (Elt F) (v.writes (Elt F) f (tiles.map (strip1 a))) = weave1 a := by
  refine funext fun y => View.read_writes_apply_of_pieces v f (weave1 a) _ ?_ y ?_
  · intro p hp x
    obtain ⟨j, -, rfl⟩ := List.mem_map.mp hp
    have hx : (x 1).val < 128 := (x 1).isLt
    refine congrArg a (ix2_ext ?_ ?_)
    · show 0 + (x 0).val = (j.val + 32 * (x 0).val) / 32
      omega
    · show 128 * j.val + (x 1).val = 128 * ((j.val + 32 * (x 0).val) % 32) + (0 + 1 * (x 1).val)
      omega
  · have h0 : (y 0).val < 8192 := (y 0).isLt
    have h1 : (y 1).val < 128 := (y 1).isLt
    have hj : (y 0).val % 32 < 32 := by omega
    exact ⟨_, List.mem_map.mpr ⟨⟨_, hj⟩, mem_tiles _, rfl⟩,
      (strip1 a ⟨_, hj⟩).1.mem_set.mpr (Fin.forall_fin_two.mpr ⟨⟨(y 0).val / 32, by show _ < 256; omega, by
        show (y 0).val = (y 0).val % 32 + 32 * ((y 0).val / 32); omega⟩,
        ⟨(y 1).val, h1, by show (y 1).val = 0 + 1 * (y 1).val; omega⟩⟩)⟩

end Weave

section Outputs
variable {F : FTy → Type} [FloatOps F] [Named F]

/-! ### What each body leaves, as a function of the blocks it reads -/

/-- The projection of the first layer. -/
def out0_4 (x0 : Vec F S4096x128 .f32) (x1 : Vec F S128x128 .f32) : Vec F S4096x128 .f32 := k0_pay1 x0 x1

/-- Row `k` of a two-row array of attention vectors. -/
def row0 (x : Vec F S2x64 .f32) : Vec F S1x64 .f32 := View.ld x (Rect.unit (s := S2x64) ![0, 0] S1x64.size inb_S2x64_S1x64_0_0)
def row1 (x : Vec F S2x64 .f32) : Vec F S1x64 .f32 := View.ld x (Rect.unit (s := S2x64) ![1, 0] S1x64.size inb_S2x64_S1x64_1_0)

/-- The first layer's source scores, one column per head. -/
def out0_5 (x0 : Vec F S4096x128 .f32) (x1 : Vec F S128x128 .f32) (x2 : Vec F S2x64 .f32) : Vec F S4096x2 .f32 := k0_pay4 x0 x1 (row0 x2) (row1 x2)
/-- The first layer's destination scores, one row per head. -/
def out0_6 (x0 : Vec F S4096x128 .f32) (x1 : Vec F S128x128 .f32) (x3 : Vec F S2x64 .f32) : Vec F S2x4096 .f32 := k0_pay5 x0 x1 (row0 x3) (row1 x3)

/-- The second layer's projection and its scores. -/
def out2_4 (x0 : Vec F S4096x128 .f32) (x1 : Vec F S128x64 .f32) : Vec F S4096x64 .f32 := k2_pay1 x0 x1
def out2_5 (x0 : Vec F S4096x128 .f32) (x1 : Vec F S128x64 .f32) (x2 : Vec F S1x64 .f32) : Vec F S4096x1 .f32 := k2_pay2 x0 x1 x2
def out2_6 (x0 : Vec F S4096x128 .f32) (x1 : Vec F S128x64 .f32) (x3 : Vec F S1x64 .f32) : Vec F S1x4096 .f32 := k2_pay3 x0 x1 x3

/-- The attention coefficients of 256 rows: of the rows' adjacency, their source scores and all destination scores. -/
def coef (adj : Vec F S256x4096 .f32) (src : Vec F S256x1 .f32) (dst : Vec F S1x4096 .f32) : Vec F S256x4096 .f32 := k1_pay2 adj src dst

/-- The two heads' source columns, destination rows and feature columns. -/
def src0 (x : Vec F S256x2 .f32) : Vec F S256x1 .f32 := View.ld x (Rect.unit (s := S256x2) ![0, 0] S256x1.size inb_S256x2_S256x1_0_0)
def src1 (x : Vec F S256x2 .f32) : Vec F S256x1 .f32 := View.ld x (Rect.unit (s := S256x2) ![0, 1] S256x1.size inb_S256x2_S256x1_0_1)
def dst0 (x : Vec F S2x4096 .f32) : Vec F S1x4096 .f32 := View.ld x (Rect.unit (s := S2x4096) ![0, 0] S1x4096.size inb_S2x4096_S1x4096_0_0)
def dst1 (x : Vec F S2x4096 .f32) : Vec F S1x4096 .f32 := View.ld x (Rect.unit (s := S2x4096) ![1, 0] S1x4096.size inb_S2x4096_S1x4096_1_0)
def feat0 (x : Vec F S4096x128 .f32) : Vec F S4096x64 .f32 := View.ld x (Rect.unit (s := S4096x128) ![0, 0] S4096x64.size inb_S4096x128_S4096x64_0_0)
def feat1 (x : Vec F S4096x128 .f32) : Vec F S4096x64 .f32 := View.ld x (Rect.unit (s := S4096x128) ![0, 64] S4096x64.size inb_S4096x128_S4096x64_0_64)

/-- The first layer's coefficients of 256 rows, both heads interleaved. -/
def out1_4 (x0 : Vec F S256x4096 .f32) (x1 : Vec F S256x2 .f32) (x2 : Vec F S2x4096 .f32) : Vec F S16384x128 .f32 :=
  weave2 (coef x0 (src0 x1) (dst0 x2)) (coef x0 (src1 x1) (dst1 x2))

/-- The first layer's output of 256 rows, the heads side by side, after the activation. -/
def out1_5 (x0 : Vec F S256x4096 .f32) (x1 : Vec F S256x2 .f32) (x2 : Vec F S2x4096 .f32) (x3 : Vec F S4096x128 .f32) : Vec F S256x128 .f32 :=
  let a0 := coef x0 (src0 x1) (dst0 x2)
  let a1 := coef x0 (src1 x1) (dst1 x2)
  k1_pay1 (k1_pay74 (k1_pay35 a0 (feat0 x3)) a1 (feat1 x3)) (k1_pay75 (k1_pay35 a0 (feat0 x3)) a1 (feat1 x3)) (k1_pay76 (k1_pay35 a0 (feat0 x3)) a1 (feat1 x3))

/-- The second layer's coefficients of 256 rows, interleaved, and its output of 256 rows, transposed. -/
def out3_4 (x0 : Vec F S256x4096 .f32) (x1 : Vec F S256x1 .f32) (x2 : Vec F S1x4096 .f32) : Vec F S8192x128 .f32 := weave1 (coef x0 x1 x2)
def out3_5 (x0 : Vec F S256x4096 .f32) (x1 : Vec F S256x1 .f32) (x2 : Vec F S1x4096 .f32) (x3 : Vec F S4096x64 .f32) : Vec F S64x256 .f32 :=
  k3_pay5 (coef x0 x1 x2) x3

end Outputs

end Cert.Gat

end
-- ==== Proof.Projections.lean ====
/- The two projection kernels: what a call leaves in its output blocks. -/
module

public import proofs.«01_k».proof.Proof.Gen.KernelIdeal.Launch
public import proofs.«01_k».proof.Proof.Gen.KernelIdeal.Points
public import proofs.«01_k».proof.Proof.Blocks
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Gat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the first layer's projection finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whatever the proof data. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whatever the proof data. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whatever the proof data. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, whatever the proof data. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

set_option maxHeartbeats 4000000 in
/-- The body of the first layer's projection on whole staging buffers, the inputs' at contents `xW`: it ends with the inputs' as they were and each
    output's at `out0_W` of the inputs'. -/
theorem sound_kernel0 (c : Dev nD) (E : Set ℕ) (arg0 : Memref sig .tc .vmem S4096x128 .f32) (harg0 : arg0.IsWhole) (arg1 : Memref sig .tc .vmem S128x128 .f32) (harg1 : arg1.IsWhole) (arg2 : Memref sig .tc .vmem S2x64 .f32) (harg2 : arg2.IsWhole) (arg3 : Memref sig .tc .vmem S2x64 .f32) (harg3 : arg3.IsWhole) (arg4 : Memref sig .tc .vmem S4096x128 .f32) (harg4 : arg4.IsWhole) (arg5 : Memref sig .tc .vmem S4096x2 .f32) (harg5 : arg5.IsWhole) (arg6 : Memref sig .tc .vmem S2x4096 .f32) (harg6 : arg6.IsWhole)
    (x0 : Vec F S4096x128 .f32) (x1 : Vec F S128x128 .f32) (x2 : Vec F S2x64 .f32) (x3 : Vec F S2x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out0_4 x0 x1) ∗ owns (c : Thread nD τ) arg5 fullShare (out0_5 x0 x1 x2) ∗ owns (c : Thread nD τ) arg6 fullShare (out0_6 x0 x1 x3)) -∗ K ⟨⟩))
      ⊢ wp frame (wpE (defs₀ (F := F)) Variants.none c none) E (cc0__proj_body arg0 harg0 arg1 harg1 arg2 harg2 arg3 harg3 arg4 harg4 arg5 harg5 arg6 harg6) K := by
  simp only [cc0__proj_body_eq_skeleton]; unfold cc0__proj_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    simp only [readAt_whole (s := S4096x128), readAt_whole (s := S128x128)]
    exact read_one (s := S4096x128) _ _ _ _ _
  isplitl [H5]
  · iexists _; isplitr
    swap; · iexact H5
    ipureintro
    simp only [readAt_whole (s := S4096x128), readAt_whole (s := S128x128)]
    exact read_one (s := S4096x2) _ _ _ _ _
  iexists _; isplitr
  swap; · iexact H6
  ipureintro
  simp only [readAt_whole (s := S4096x128), readAt_whole (s := S128x128)]
  exact read_one (s := S2x4096) _ _ _ _ _

/-- The proof data of the first layer's projection's pipeline: the arrays as it finds them, each input's buffer at its block after the body, each
    output's at `out0_W` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 1 t) (iblk0 V c 2 t)
    | ⟨6, _⟩ => out0_6 (iblk0 V c 0 t) (iblk0 V c 1 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row0 (t : Fin cfg0.N) :
    defs₀ (F := F) .tc cfg0.body (cfg0.bodyArgs t (cfg0.slots t)) = bodyAt0 t := by
  unfold defs₀; rw [Defs.onTc_tc]

/-- The pipeline's body obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Region0

section Region2

variable (V : (c : Dev nD) → (b : Ref sig .tc) → Buf (Elt F) ((c : Thread nD τ).loc b))

/-- Window `w`'s block at point `t`, read off its array as the second layer's projection finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whatever the proof data. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, whatever the proof data. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, whatever the proof data. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, whatever the proof data. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

set_option maxHeartbeats 4000000 in
/-- The body of the second layer's projection on whole staging buffers, the inputs' at contents `xW`: it ends with the inputs' as they were and each
    output's at `out2_W` of the inputs'. -/
theorem sound_kernel2 (c : Dev nD) (E : Set ℕ) (arg0 : Memref sig .tc .vmem S4096x128 .f32) (harg0 : arg0.IsWhole) (arg1 : Memref sig .tc .vmem S128x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S4096x64 .f32) (harg4 : arg4.IsWhole) (arg5 : Memref sig .tc .vmem S4096x1 .f32) (harg5 : arg5.IsWhole) (arg6 : Memref sig .tc .vmem S1x4096 .f32) (harg6 : arg6.IsWhole)
    (x0 : Vec F S4096x128 .f32) (x1 : Vec F S128x64 .f32) (x2 : Vec F S1x64 .f32) (x3 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out2_4 x0 x1) ∗ owns (c : Thread nD τ) arg5 fullShare (out2_5 x0 x1 x2) ∗ owns (c : Thread nD τ) arg6 fullShare (out2_6 x0 x1 x3)) -∗ K ⟨⟩))
      ⊢ wp frame (wpE (defs₀ (F := F)) Variants.none c none) E (cc2__proj_body arg0 harg0 arg1 harg1 arg2 harg2 arg3 harg3 arg4 harg4 arg5 harg5 arg6 harg6) K := by
  simp only [cc2__proj_body_eq_skeleton]; unfold cc2__proj_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    simp only [readAt_whole (s := S4096x128), readAt_whole (s := S128x64)]
    exact read_one (s := S4096x64) _ _ _ _ _
  isplitl [H5]
  · iexists _; isplitr
    swap; · iexact H5
    ipureintro
    simp only [readAt_whole (s := S4096x128), readAt_whole (s := S128x64), readAt_whole (s := S1x64)]
    exact read_one (s := S4096x1) _ _ _ _ _
  iexists _; isplitr
  swap; · iexact H6
  ipureintro
  simp only [readAt_whole (s := S4096x128), readAt_whole (s := S128x64), readAt_whole (s := S1x64)]
  exact read_one (s := S1x4096) _ _ _ _ _

/-- The proof data of the second layer's projection's pipeline: the arrays as it finds them, each input's buffer at its block after the body, each
    output's at `out2_W` of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t)
    | ⟨5, _⟩ => out2_5 (iblk2 V c 0 t) (iblk2 V c 1 t) (iblk2 V c 2 t)
    | ⟨6, _⟩ => out2_6 (iblk2 V c 0 t) (iblk2 V c 1 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) := by dsimp only [dat2]
theorem after2_5 (c : Dev nD) (t : Fin cfg2.N) : (dat2 V c).after 5 t = out2_5 (iblk2 V c 0 t) (iblk2 V c 1 t) (iblk2 V c 2 t) := by dsimp only [dat2]
theorem after2_6 (c : Dev nD) (t : Fin cfg2.N) : (dat2 V c).after 6 t = out2_6 (iblk2 V c 0 t) (iblk2 V c 1 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- What it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' buffers hold their blocks, so `sound_kernel2` applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row2 (t : Fin cfg2.N) :
    defs₀ (F := F) .tc cfg2.body (cfg2.bodyArgs t (cfg2.slots t)) = bodyAt2 t := by
  unfold defs₀; rw [Defs.onTc_tc]

/-- The pipeline's body obligation, at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Region2

end Cert.Gat

end
-- ==== Proof.AttentionOne.lean ====
/- The first layer's attention kernel: what a call leaves in its output blocks. -/
module

public import proofs.«01_k».proof.Proof.Gen.KernelIdeal.Launch
public import proofs.«01_k».proof.Proof.Gen.KernelIdeal.Points
public import proofs.«01_k».proof.Proof.Blocks
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Gat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the first layer's attention finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whatever the proof data. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whatever the proof data. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whatever the proof data. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, whatever the proof data. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

set_option maxHeartbeats 4000000 in
/-- The body of the first layer's attention on whole staging buffers, the inputs' at contents `xW`: it ends with the inputs' as they were and each
    output's at `out1_W` of the inputs'. -/
theorem sound_kernel1 (c : Dev nD) (E : Set ℕ) (i : grid1.Coords) (arg1 : Memref sig .tc .vmem S256x4096 .f32) (harg1 : arg1.IsWhole) (arg2 : Memref sig .tc .vmem S256x2 .f32) (harg2 : arg2.IsWhole) (arg3 : Memref sig .tc .vmem S2x4096 .f32) (harg3 : arg3.IsWhole) (arg4 : Memref sig .tc .vmem S4096x128 .f32) (harg4 : arg4.IsWhole) (arg5 : Memref sig .tc .vmem S16384x128 .f32) (harg5 : arg5.IsWhole) (arg6 : Memref sig .tc .vmem S256x128 .f32) (harg6 : arg6.IsWhole)
    (x0 : Vec F S256x4096 .f32) (x1 : Vec F S256x2 .f32) (x2 : Vec F S2x4096 .f32) (x3 : Vec F S4096x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2) ∗ owns (c : Thread nD τ) arg6 fullShare (out1_5 x0 x1 x2 x3)) -∗ K ⟨⟩))
      ⊢ wp frame (wpE (defs₀ (F := F)) Variants.none c none) E (cc1__attn1_body i arg1 harg1 arg2 harg2 arg3 harg3 arg4 harg4 arg5 harg5 arg6 harg6) K := by
  simp only [cc1__attn1_body_eq_skeleton]; unfold cc1__attn1_body_skel
  simp only [k1_part1_eq_skeleton, k1_part2_eq_skeleton, k1_part3_eq_skeleton, k1_part4_eq_skeleton, k1_part5_eq_skeleton, k1_part6_eq_skeleton, k1_part7_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    simp only [readAt_whole (s := S256x4096)]
    exact read_weave2 _ _ _ _
  iexists _; isplitr
  swap; · iexact H5
  ipureintro
  sl_unfold_run_names
  simp only [readAt_whole (s := S256x4096)]
  exact read_one (s := S256x128) _ _ _ _ _

/-- The proof data of the first layer's attention's pipeline: the arrays as it finds them, each input's buffer at its block after the body, each
    output's at `out1_W` of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t)
    | ⟨5, _⟩ => out1_5 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row1 (t : Fin cfg1.N) :
    defs₀ (F := F) .tc cfg1.body (cfg1.bodyArgs t (cfg1.slots t)) = bodyAt1 t := by
  unfold defs₀; rw [Defs.onTc_tc]

/-- The pipeline's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Region1

end Cert.Gat

end
-- ==== Proof.AttentionTwo.lean ====
/- The second layer's attention kernel: what a call leaves in its output blocks. -/
module

public import proofs.«01_k».proof.Proof.Gen.KernelIdeal.Launch
public import proofs.«01_k».proof.Proof.Gen.KernelIdeal.Points
public import proofs.«01_k».proof.Proof.Blocks
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Gat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region3

variable (V : (c : Dev nD) → (b : Ref sig .tc) → Buf (Elt F) ((c : Thread nD τ).loc b))

/-- Window `w`'s block at point `t`, read off its array as the second layer's attention finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, whatever the proof data. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, whatever the proof data. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, whatever the proof data. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, whatever the proof data. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

set_option maxHeartbeats 4000000 in
/-- The body of the second layer's attention on whole staging buffers, the inputs' at contents `xW`: it ends with the inputs' as they were and each
    output's at `out3_W` of the inputs'. -/
theorem sound_kernel3 (c : Dev nD) (E : Set ℕ) (i : grid3.Coords) (arg1 : Memref sig .tc .vmem S256x4096 .f32) (harg1 : arg1.IsWhole) (arg2 : Memref sig .tc .vmem S256x1 .f32) (harg2 : arg2.IsWhole) (arg3 : Memref sig .tc .vmem S1x4096 .f32) (harg3 : arg3.IsWhole) (arg4 : Memref sig .tc .vmem S4096x64 .f32) (harg4 : arg4.IsWhole) (arg5 : Memref sig .tc .vmem S8192x128 .f32) (harg5 : arg5.IsWhole) (arg6 : Memref sig .tc .vmem S64x256 .f32) (harg6 : arg6.IsWhole)
    (x0 : Vec F S256x4096 .f32) (x1 : Vec F S256x1 .f32) (x2 : Vec F S1x4096 .f32) (x3 : Vec F S4096x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2) ∗ owns (c : Thread nD τ) arg6 fullShare (out3_5 x0 x1 x2 x3)) -∗ K ⟨⟩))
      ⊢ wp frame (wpE (defs₀ (F := F)) Variants.none c none) E (cc3__attn2_body i arg1 harg1 arg2 harg2 arg3 harg3 arg4 harg4 arg5 harg5 arg6 harg6) K := by
  simp only [cc3__attn2_body_eq_skeleton]; unfold cc3__attn2_body_skel
  simp only [k3_part1_eq_skeleton, k3_part2_eq_skeleton, k3_part3_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    simp only [readAt_whole (s := S256x4096), readAt_whole (s := S256x1), readAt_whole (s := S1x4096)]
    exact read_weave1 _ _ _
  iexists _; isplitr
  swap; · iexact H5
  ipureintro
  sl_unfold_run_names
  simp only [readAt_whole (s := S256x4096), readAt_whole (s := S256x1), readAt_whole (s := S1x4096), readAt_whole (s := S4096x64)]
  exact read_one (s := S64x256) _ _ _ _ _

/-- The proof data of the second layer's attention's pipeline: the arrays as it finds them, each input's buffer at its block after the body, each
    output's at `out3_W` of the input blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t)
    | ⟨5, _⟩ => out3_5 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) := by dsimp only [dat3]
theorem after3_5 (c : Dev nD) (t : Fin cfg3.N) : (dat3 V c).after 5 t = out3_5 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point `t`. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- What it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so `sound_kernel3` applies. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row3 (t : Fin cfg3.N) :
    defs₀ (F := F) .tc cfg3.body (cfg3.bodyArgs t (cfg3.slots t)) = bodyAt3 t := by
  unfold defs₀; rw [Defs.onTc_tc]

/-- The pipeline's body obligation, at every point. -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Region3

end Cert.Gat

end
-- ==== Proof.Launches.lean ====
/- The run of the kernel, over any float values: the four launches one after the other and the host operations at the end. -/
module

public import proofs.«01_k».proof.Proof.Gen.KernelIdeal.Launch
public import proofs.«01_k».proof.Proof.Gen.KernelIdeal.Points
public import proofs.«01_k».proof.Proof.Gen.KernelIdeal.Regions
public import proofs.«01_k».proof.Proof.Projections
public import proofs.«01_k».proof.Proof.AttentionOne
public import proofs.«01_k».proof.Proof.AttentionTwo
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Gat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers at each boundary between the items of `main` -/

/-- Core `c`'s buffers at launch. -/
abbrev W0 : Dev nD → Valuation τ sig (Elt F) := fun c b => m ((c : Dev nD), b)
/-- The same read at the references of the core. -/
abbrev V0 : (c : Dev nD) → (b : Ref sig .tc) → Buf (Elt F) ((c : Thread nD τ).loc b) := fun c b => W0 m c b

/-- The buffers after the first layer's projection: its arrays at what its pipeline leaves, every other buffer as it was. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- A reference that is no output array of the first layer's projection keeps its contents. -/
theorem W1_of (c : Dev nD) (r : Ref sig .tc) (h : ∀ w : Fin cfg0.W, Pipeline.arrRef spec0 w = r → (cfg0.win w).isOut = false) :
    W1 m c (Proc.devRef .tc r) = W0 m c (Proc.devRef .tc r) := by
  by_cases hw : ∃ w : Fin cfg0.W, Pipeline.arrRef spec0 w = r
  · obtain ⟨w, rfl⟩ := hw
    exact (W1_arr m c w).trans (((dat0 (V0 m) c).arrAt_in w (h w rfl) _).trans (A_eq0 (V0 m) c w))
  · exact W1_of_ne m c r fun w e => hw ⟨w, e⟩
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- The buffers after the first layer's attention: its arrays at what its pipeline leaves, every other buffer as it was. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
/-- A reference that is no output array of the first layer's attention keeps its contents. -/
theorem W2_of (c : Dev nD) (r : Ref sig .tc) (h : ∀ w : Fin cfg1.W, Pipeline.arrRef spec1 w = r → (cfg1.win w).isOut = false) :
    W2 m c (Proc.devRef .tc r) = W1 m c (Proc.devRef .tc r) := by
  by_cases hw : ∃ w : Fin cfg1.W, Pipeline.arrRef spec1 w = r
  · obtain ⟨w, rfl⟩ := hw
    exact (W2_arr m c w).trans (((dat1 (V1 m) c).arrAt_in w (h w rfl) _).trans (A_eq1 (V1 m) c w))
  · exact W2_of_ne m c r fun w e => hw ⟨w, e⟩
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- The buffers after the second layer's projection: its arrays at what its pipeline leaves, every other buffer as it was. -/
def W3 (c : Dev nD) : Valuation τ sig (Elt F) :=
  Pipeline.withArrays spec2 c (W2 m c) fun w => (dat2 (V2 m) c).arrAt w cfg2.N
theorem W3_arr (c : Dev nD) (w : Fin cfg2.W) :
    W3 m c (Proc.devRef .tc (Pipeline.arrRef spec2 w)) = (dat2 (V2 m) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m c (Proc.devRef .tc b) = W2 m c (Proc.devRef .tc b) := by
  unfold W3; exact Pipeline.withArrays_of_ne spec2 c _ _ b hb
/-- A reference that is no output array of the second layer's projection keeps its contents. -/
theorem W3_of (c : Dev nD) (r : Ref sig .tc) (h : ∀ w : Fin cfg2.W, Pipeline.arrRef spec2 w = r → (cfg2.win w).isOut = false) :
    W3 m c (Proc.devRef .tc r) = W2 m c (Proc.devRef .tc r) := by
  by_cases hw : ∃ w : Fin cfg2.W, Pipeline.arrRef spec2 w = r
  · obtain ⟨w, rfl⟩ := hw
    exact (W3_arr m c w).trans (((dat2 (V2 m) c).arrAt_in w (h w rfl) _).trans (A_eq2 (V2 m) c w))
  · exact W3_of_ne m c r fun w e => hw ⟨w, e⟩
abbrev V3 : (c : Dev nD) → (b : Ref sig .tc) → Buf (Elt F) ((c : Thread nD τ).loc b) := fun c b => W3 m c b
theorem hF2 (c : Dev nD) (w : Fin cfg2.W) : (dat2 (V2 m) c).arrAt w cfg2.N = V3 m c (Pipeline.arrRef spec2 w) :=
  (W3_arr m c w).symm
theorem hrest2 (c : Dev nD) : ∀ b, b ∉ Finset.univ.image (Pipeline.arrRef spec2) → V3 m c b = V2 m c b :=
  fun b hb => W3_of_ne m c b fun w e => hb (Finset.mem_image.mpr ⟨w, Finset.mem_univ _, e⟩)

/-- The buffers after the second layer's attention: its arrays at what its pipeline leaves, every other buffer as it was. -/
def W4 (c : Dev nD) : Valuation τ sig (Elt F) :=
  Pipeline.withArrays spec3 c (W3 m c) fun w => (dat3 (V3 m) c).arrAt w cfg3.N
theorem W4_arr (c : Dev nD) (w : Fin cfg3.W) :
    W4 m c (Proc.devRef .tc (Pipeline.arrRef spec3 w)) = (dat3 (V3 m) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m c (Proc.devRef .tc b) = W3 m c (Proc.devRef .tc b) := by
  unfold W4; exact Pipeline.withArrays_of_ne spec3 c _ _ b hb
/-- A reference that is no output array of the second layer's attention keeps its contents. -/
theorem W4_of (c : Dev nD) (r : Ref sig .tc) (h : ∀ w : Fin cfg3.W, Pipeline.arrRef spec3 w = r → (cfg3.win w).isOut = false) :
    W4 m c (Proc.devRef .tc r) = W3 m c (Proc.devRef .tc r) := by
  by_cases hw : ∃ w : Fin cfg3.W, Pipeline.arrRef spec3 w = r
  · obtain ⟨w, rfl⟩ := hw
    exact (W4_arr m c w).trans (((dat3 (V3 m) c).arrAt_in w (h w rfl) _).trans (A_eq3 (V3 m) c w))
  · exact W4_of_ne m c r fun w e => hw ⟨w, e⟩
abbrev V4 : (c : Dev nD) → (b : Ref sig .tc) → Buf (Elt F) ((c : Thread nD τ).loc b) := fun c b => W4 m c b
theorem hF3 (c : Dev nD) (w : Fin cfg3.W) : (dat3 (V3 m) c).arrAt w cfg3.N = V4 m c (Pipeline.arrRef spec3 w) :=
  (W4_arr m c w).symm
theorem hrest3 (c : Dev nD) : ∀ b, b ∉ Finset.univ.image (Pipeline.arrRef spec3) → V4 m c b = V3 m c b :=
  fun b hb => W4_of_ne m c b fun w e => hb (Finset.mem_image.mpr ⟨w, Finset.mem_univ _, e⟩)

/-- The buffers at the end: the host operations done. -/
abbrev W5 (c : Dev nD) : Valuation τ sig (Elt F) := StableHlo.after hostOps4 (W4 m c)

/-! ## No item writes an argument -/

/-- The arguments of `main`. -/
abbrev argRefs : List (Ref sig .tc) := [main_arg0, main_arg1, main_arg2, main_arg3, main_arg4, main_arg5, main_arg6, main_arg7]

theorem argsIn0 : ∀ a ∈ argRefs, ∀ w : Fin cfg0.W, Pipeline.arrRef spec0 w = a → (cfg0.win w).isOut = false :=
  ListAll.forall_mem_of_all_decide (by decide +kernel)
theorem argsIn1 : ∀ a ∈ argRefs, ∀ w : Fin cfg1.W, Pipeline.arrRef spec1 w = a → (cfg1.win w).isOut = false :=
  ListAll.forall_mem_of_all_decide (by decide +kernel)
theorem argsIn2 : ∀ a ∈ argRefs, ∀ w : Fin cfg2.W, Pipeline.arrRef spec2 w = a → (cfg2.win w).isOut = false :=
  ListAll.forall_mem_of_all_decide (by decide +kernel)
theorem argsIn3 : ∀ a ∈ argRefs, ∀ w : Fin cfg3.W, Pipeline.arrRef spec3 w = a → (cfg3.win w).isOut = false :=
  ListAll.forall_mem_of_all_decide (by decide +kernel)
theorem W0_args (c : Dev nD) : ∀ a ∈ argRefs, W0 m c (Proc.devRef .tc a) = m ((c : Thread nD τ).loc a) := fun _ _ => rfl
theorem W1_args (c : Dev nD) : ∀ a ∈ argRefs, W1 m c (Proc.devRef .tc a) = m ((c : Thread nD τ).loc a) :=
  fun a ha => (W1_of m c a (argsIn0 a ha)).trans (W0_args m c a ha)
theorem W2_args (c : Dev nD) : ∀ a ∈ argRefs, W2 m c (Proc.devRef .tc a) = m ((c : Thread nD τ).loc a) :=
  fun a ha => (W2_of m c a (argsIn1 a ha)).trans (W1_args m c a ha)
theorem W3_args (c : Dev nD) : ∀ a ∈ argRefs, W3 m c (Proc.devRef .tc a) = m ((c : Thread nD τ).loc a) :=
  fun a ha => (W3_of m c a (argsIn2 a ha)).trans (W2_args m c a ha)
theorem W4_args (c : Dev nD) : ∀ a ∈ argRefs, W4 m c (Proc.devRef .tc a) = m ((c : Thread nD τ).loc a) :=
  fun a ha => (W4_of m c a (argsIn3 a ha)).trans (W3_args m c a ha)
/-- Every argument ends as launched. -/
theorem W5_args (c : Dev nD) : ∀ a ∈ argRefs, W5 m c (Proc.devRef .tc a) = m ((c : Thread nD τ).loc a) :=
  fun a ha => (StableHlo.after_of_writes_sub hostOps4 _ hostOps4_writes
    ((show ∀ a ∈ argRefs, a ∉ hostOps4_W from by decide) a ha)).trans (W4_args m c a ha)

/-! ## The segments of `main` -/

/-- No pipeline has a prefetched table. -/
abbrev adm : (p : Fin 4) → (pcfgs (F := F) p).Adm := fun p => (cfgs p).toPCfg_adm
/-- Every pipeline's proof data, each at its entry contents. -/
def pdats : (p : Fin 4) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V2 m) c
  | ⟨3, _⟩ => fun c => dat3 (V3 m) c
abbrev 𝒱₀ : Variants := Variants.none
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)
/-- The host operations at the end as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at its final contents, the generator register at some state. -/
abbrev Tₙ (c : Dev nD) : sProp 𝕄 := iprop(StableHlo.held (c : Thread nD τ) (Pipeline.ucRefs τ sig) (W5 m c) ∗ ∃ r, prngReg c r)

set_option backward.isDefEq.respectTransparency.types false in
/-- The first layer's projection as a segment: entered from every unscoped buffer at `W0`, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) (A_eq0 (V0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The first layer's attention as a segment: entered from every unscoped buffer at `W1`, left at `W2`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) (A_eq1 (V1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second layer's projection as a segment: entered from every unscoped buffer at `W2`, left at `W3`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m) c).loose
  hwaits := Pipeline.hwaits_of_owed_zero _ _ _ _ L lv 2 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec2 c (V2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V2 m c) (A_eq2 (V2 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V2 m c) (V3 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second layer's attention as a segment: entered from every unscoped buffer at `W3`, left at `W4`. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V3 m) c).loose
  hwaits := Pipeline.hwaits_of_owed_zero _ _ _ _ L lv 3 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec3 c (V3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V3 m c) (A_eq3 (V3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V3 m c) (V4 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The segments of `main` in order: the four launches, then the host operations. -/
abbrev segs : List (Pipeline.Seg (pcfgs (F := F)) adm (pdats m) () defs₀ 𝒱₀ L lv) :=
  [ .region (reg0 m), .region (reg1 m), .region (reg2 m), .region (reg3 m),
    .host (hseg hostOps4 hostOps4_sub hostOps4_fresh (W4 m)) ]
theorem main_run (c : Dev nD) : main (F := F) c = Pipeline.Seg.run (segs m) := (main_chain c).trans (by chain_rfl)

/-- The host operations' end, regrouped as the last thread state beside what is owed. -/
theorem last_state (c : Dev nD) : iprop(StableHlo.held (c : Thread nD τ) (Pipeline.ucRefs τ sig) (W5 m c) ∗ R c)
    ⊢ iprop(Tₙ m c ∗ ∃ W, owes (c : Thread nD τ) (0 : CellTallies nD τ sig Unit) W) := by
  iintro ⟨Hh, Hp, HO⟩
  isplitl [Hh Hp]
  · isplitl [Hh]; · iexact Hh
    iexact Hp
  iexact HO

theorem no_unscoped : ∀ sm : SemLoc sig, sm.isScoped .tc = true := by decide

set_option backward.isDefEq.respectTransparency.types false in
/-- The run of `main`, over any float values: from any memory with zero counters every weakly fair execution ends, nothing faulting,
    with every unscoped buffer at `W5` and every counter at zero. -/
theorem run_main : θ_run defs (onTc (τ := τ) (main (F := F))) ⟨m, fun _ => 0, ρ⟩ (fun r =>
      (∀ (c : Dev nD), ∀ b ∈ Pipeline.ucRefs τ sig, r.2.mem (((c : Thread nD τ)).1, b) = W5 m c b) ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => last_state m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h hz => ⟨h, funext fun g => hz g (.inr (no_unscoped g.2))⟩)

/-- What the run leaves in an unscoped buffer. -/
theorem mem_of_run {M : (ℓ : Loc nD τ sig) → Buf (Elt F) ℓ}
    (h : ∀ (c : Dev nD), ∀ b ∈ Pipeline.ucRefs τ sig, M (((c : Thread nD τ)).1, b) = W5 m c b)
    (c : Dev nD) (b : Ref sig .tc) (hb : ¬ (Proc.devRef .tc b : DevRef τ sig).isScoped) : M ((c : Thread nD τ).loc b) = W5 m c b :=
  h c _ (mem_uc b hb)

end Cert.Gat

end
-- ==== Proof.Frames.lean ====
/- The frame claims: the kernel as printed and idealized from the one run of `Launches`, the reference from its generated run;
   and the statement of the named constant. -/
module

public import proofs.«01_k».proof.Defs
public import proofs.«01_k».proof.Proof.Launches
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_graph
public import Idealize.ShloMosaic.Lib.Quiescent

@[expose] public section

noncomputable section

namespace Cert.Gat

open Idealize.ShloMosaic Idealize.ShloMosaic.TcCoe Idealize.SL.Sem

section
open Cert.KernelIdeal
variable {F : FTy → Type} [FloatOps F] [Named F]

/-- The kernel over any float values: every argument ends as launched and every counter at zero. -/
theorem frame_any (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun r h => ⟨fun c =>
    have key : ∀ a ∈ argRefs, ¬ (Proc.devRef .tc a : DevRef τ sig).isScoped →
        r.2.mem ((c.tc : Thread nD τ).loc a) = m ((c.tc : Thread nD τ).loc a) :=
      fun a ha hs => (mem_of_run m h.1 c a hs).trans (W5_args m c a ha)
    ⟨key main_arg0 (by decide) (by decide), key main_arg1 (by decide) (by decide), key main_arg2 (by decide) (by decide),
      key main_arg3 (by decide) (by decide), key main_arg4 (by decide) (by decide), key main_arg5 (by decide) (by decide),
      key main_arg6 (by decide) (by decide), key main_arg7 (by decide) (by decide)⟩, h.2⟩) (run_main m ρ)
end

/-- At the machine's bit patterns a named constant reads as its own word. -/
abbrev wordNamed : Named Bits where
  named _ _ {φ} bits := Scalar.ofBits φ bits

section
attribute [local instance] wordNamed

/-- Body tables over four labels agree if they agree at each label of the TensorCore and on the other processors. -/
theorem defs_ext {nD : ℕ} {τ : Topo} {sig : RefSig} {Val : EltTy → Type} {A R : Fin 4 → Type} (D D' : Defs nD τ sig Val ⟨Fin 4, A, R⟩)
    (h0 : ∀ a, D .tc 0 a = D' .tc 0 a) (h1 : ∀ a, D .tc 1 a = D' .tc 1 a) (h2 : ∀ a, D .tc 2 a = D' .tc 2 a)
    (h3 : ∀ a, D .tc 3 a = D' .tc 3 a) (hs : ∀ i, D (.scScalar i) = D' (.scScalar i))
    (hv : ∀ i j, D (.scVector i j) = D' (.scVector i j)) : D = D' := by
  funext p l a
  cases p with
  | tc =>
    match l with
    | 0 => exact h0 a
    | 1 => exact h1 a
    | 2 => exact h2 a
    | 3 => exact h3 a
  | scScalar i => rw [hs]
  | scVector i j => rw [hv]

/-! Read at the bit patterns, the idealized program is the printed one: the four bodies, then the tables. -/

theorem row0_eq (a : Cert.Kernel.Λ₀.Args 0) : Cert.Kernel.defs₀ (F := Bits) .tc 0 a = Cert.KernelIdeal.defs₀ (F := Bits) .tc 0 a := rfl
theorem row1_eq (a : Cert.Kernel.Λ₀.Args 1) : Cert.Kernel.defs₀ (F := Bits) .tc 1 a = Cert.KernelIdeal.defs₀ (F := Bits) .tc 1 a := rfl
theorem row2_eq (a : Cert.Kernel.Λ₀.Args 2) : Cert.Kernel.defs₀ (F := Bits) .tc 2 a = Cert.KernelIdeal.defs₀ (F := Bits) .tc 2 a := rfl
theorem row3_eq (a : Cert.Kernel.Λ₀.Args 3) : Cert.Kernel.defs₀ (F := Bits) .tc 3 a = Cert.KernelIdeal.defs₀ (F := Bits) .tc 3 a := rfl

/-- The printed program and the idealized one read at bit patterns have the same bodies. -/
theorem defs_eq : Cert.Kernel.defs₀ (F := Bits) = Cert.KernelIdeal.defs₀ (F := Bits) :=
  defs_ext (Cert.Kernel.defs₀ (F := Bits)) (Cert.KernelIdeal.defs₀ (F := Bits)) row0_eq row1_eq row2_eq row3_eq (fun _ => rfl) (fun _ _ => rfl)
theorem defs_eq' : Cert.Kernel.defs (F := Bits) = Cert.KernelIdeal.defs (F := Bits) :=
  congrArg (Pipeline.defs Cert.Kernel.pcfgs) defs_eq
/-- The frame of the kernel as printed, from the run at any float values. -/
theorem frame_kernel : Cert.quiescent_Kernel := fun m ρ _ => by
  rw [defs_eq']
  exact frame_any (F := Bits) m ρ
end

theorem frame_ideal : Cert.quiescent_KernelIdeal := fun m ρ _ => frame_any (F := Ideal) m ρ
theorem frame_ideal_pre : Cert.quiescent_KernelIdeal_pre_graph := fun m ρ _ => frame_any (F := Ideal) m ρ

theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)
theorem frame_reference_pre : Cert.quiescent_ReferenceIdeal_pre_graph := fun m ρ _ => frame_reference m ρ trivial

/-- The named constant: the table gives `log2e` the real it stands for. -/
theorem named_log2e : Cert.preserves_Kernel_KernelIdeal :=
  IdealRules.named_const.statement Cert.KernelIdeal.κ "log2e" .f32 0x3FB8AA3B#32 (((Real.log 2)⁻¹ : ℝ) : EReal) rfl

end Cert.Gat

end
-- ==== Proof.Scores.lean ====
/- The attention coefficients of one row, over the reals, and the two ways of computing them over the extended reals: as the kernel
   does, by powers of two of scaled scores times the row of the adjacency matrix, and as the reference does, by a softmax of the
   scores with −∞ where there is no edge. Both are the coercion of the real coefficients. -/
module

public import Idealize.ShloMosaic.PureOps
public import Idealize.ShloMosaic.Lib.IdealHost
public import Idealize.ShloMosaic.Lib.Routing.OpsOrder

@[expose] public section

noncomputable section

namespace Cert.Gat

open Idealize.ShloMosaic

/-- Sums of reals are sums of extended reals. -/
theorem coe_sum {ι : Type} [Fintype ι] (f : ι → ℝ) : ∑ i, (f i : EReal) = ((∑ i, f i : ℝ) : EReal) := by
  classical
  induction (Finset.univ : Finset ι) using Finset.induction_on with
  | empty => simp
  | insert i s hi ih => rw [Finset.sum_insert hi, Finset.sum_insert hi, ih, EReal.coe_add]

/-- Sums of products of reals are sums of products of extended reals. -/
theorem coe_sum_mul {ι : Type} [Fintype ι] (f g : ι → ℝ) : ∑ i, (f i : EReal) * (g i : EReal) = ((∑ i, f i * g i : ℝ) : EReal) := by
  simp only [← EReal.coe_mul]; exact coe_sum _

/-- The real the f32 constant 0.2 stands for. -/
def slope : ℝ := 13421773 / 67108864

/-- The slope is positive. -/
theorem slope_pos : 0 < slope := by unfold slope; norm_num
/-- The slope is below 1. -/
theorem slope_lt : slope < 1 := by unfold slope; norm_num

/-- The word of the constant 0.2 is the slope. -/
theorem bits_slope : Ideal.ofBits .f32 0x3E4CCCCD#32 = (slope : EReal) := by
  unfold slope
  simp [Ideal.ofBits, Ideal.ieee, -EReal.coe_mul]; norm_num

/-- The word of the constant 1/4096 is that real. -/
theorem bits_uniform : Ideal.ofBits .f32 0x39800000#32 = ((1 / 4096 : ℝ) : EReal) := by
  simp [Ideal.ofBits, Ideal.ieee, -EReal.coe_mul]; norm_num

/-- The word of −∞ is the least extended real. -/
theorem bits_neg_inf : Ideal.ofBits .f32 0xFF800000#32 = ⊥ := by
  simp [Ideal.ofBits, Ideal.ieee]

/-- The leaky rectifier. -/
def lrelu (e : ℝ) : ℝ := if 0 ≤ e then e else slope * e

/-- It is the greater of a score and its multiple by the slope, and commutes with a positive scale. -/
theorem max_scaled (e k : ℝ) (hk : 0 < k) : max (e * k) (slope * (e * k)) = lrelu e * k := by
  have h1 := slope_pos
  have h2 := slope_lt
  unfold lrelu
  split_ifs with h
  · exact max_eq_left (by nlinarith [mul_nonneg h hk.le])
  · have : e * k < 0 := mul_neg_of_neg_of_pos (not_le.mp h) hk
    rw [max_eq_right (by nlinarith)]; ring

/-- 1 / log 2, the factor the kernel scales its scores by. -/
def log2e : ℝ := (Real.log 2)⁻¹

/-- 1 / log 2 is positive. -/
theorem log2e_pos : 0 < log2e := inv_pos.mpr (Real.log_pos (by norm_num))

/-- A power of two of a score scaled by 1 / log 2 is the score's exponential. -/
theorem two_rpow (x : ℝ) : Real.rpow 2 (x * log2e) = Real.exp x := by
  have h : Real.log 2 ≠ 0 := (Real.log_pos (by norm_num)).ne'
  show (2 : ℝ) ^ (x * log2e) = _
  rw [Real.rpow_def_of_pos (by norm_num)]
  congr 1
  unfold log2e; field_simp

/-- The unnormalized weight of an entry: nothing without an edge, the exponential of its score with one. -/
def weight (a e : Fin 4096 → ℝ) (j : Fin 4096) : ℝ := a j * Real.exp (lrelu (e j))

/-- The attention coefficients of a row: the weights over their sum, and uniform for a row without an edge. -/
def att (a e : Fin 4096 → ℝ) (j : Fin 4096) : ℝ :=
  if 0 < ∑ x, weight a e x then weight a e j / ∑ x, weight a e x else 1 / 4096

/-- The kernel's weight. -/
def powAt (a : Fin 4096 → EReal) (s : EReal) (d : Fin 4096 → EReal) (j : Fin 4096) : EReal :=
  Ideal.exp2 (max (s + d j) (Ideal.ofBits .f32 0x3E4CCCCD#32 * (s + d j))) * a j

/-- The kernel's coefficient. -/
def coefAt (a : Fin 4096 → EReal) (s : EReal) (d : Fin 4096 → EReal) (j : Fin 4096) : EReal :=
  powAt a s d j * (if 0 < ∑ x, powAt a s d x then Ideal.div 1 (∑ x, powAt a s d x) else 0)
    + if 0 < ∑ x, powAt a s d x then 0 else Ideal.ofBits .f32 0x39800000#32

/-- The kernel's weight of real scores is the real weight. -/
theorem powAt_coe (a : Fin 4096 → ℝ) (s : ℝ) (d : Fin 4096 → ℝ) (j : Fin 4096) :
    powAt (fun j => (a j : EReal)) ((s * log2e : ℝ) : EReal) (fun j => ((d j * log2e : ℝ) : EReal)) j
      = ((weight a (fun j => s + d j) j : ℝ) : EReal) := by
  unfold powAt weight
  dsimp only
  rw [bits_slope, ← EReal.coe_add, ← EReal.coe_mul, ← EReal.coe_strictMono.monotone.map_max, ← add_mul, max_scaled _ _ log2e_pos, Ideal.exp2_coe, two_rpow,
    ← EReal.coe_mul, mul_comm]

/-- The quotient of two reals, the second not zero. -/
theorem div_reals (x y : ℝ) (hy : y ≠ 0) : Ideal.div (x : EReal) (y : EReal) = ((x / y : ℝ) : EReal) := by
  rw [Ideal.div_coe hy, ← EReal.coe_mul, mul_one_div]

/-- The kernel's coefficients of real scores are the real coefficients. -/
theorem coefAt_coe (a : Fin 4096 → ℝ) (s : ℝ) (d : Fin 4096 → ℝ) (j : Fin 4096) :
    coefAt (fun j => (a j : EReal)) ((s * log2e : ℝ) : EReal) (fun j => ((d j * log2e : ℝ) : EReal)) j
      = ((att a (fun j => s + d j) j : ℝ) : EReal) := by
  unfold coefAt att
  simp only [powAt_coe, coe_sum, EReal.coe_pos]
  split_ifs with h
  · rw [← EReal.coe_one, div_reals _ _ h.ne', ← EReal.coe_mul, add_zero, mul_one_div]
  · rw [mul_zero, zero_add, bits_uniform]

/-- The reference's score: the rectified score of an edge, −∞ where there is none, 0 all along a row without an edge. -/
def refScore (a e : Fin 4096 → EReal) (j : Fin 4096) : EReal :=
  if 0 < a j then if 0 ≤ e j then e j else Ideal.ofBits .f32 0x3E4CCCCD#32 * e j
  else Scalar.select (Finset.univ.fold IntOp.ori (0#1) fun x => BitVec.ofBool (decide (0 < a x))) (Ideal.ofBits .f32 0xFF800000#32) 0

/-- The reference's numerator: the exponential of a score less the greatest. -/
def refNum (z : Fin 4096 → EReal) (j : Fin 4096) : EReal :=
  Ideal.exp (z j - max (Ideal.ofBits .f32 0xFF800000#32) (Finset.univ.fold max (Ideal.ofBits .f32 0xFF800000#32) z))

/-- The reference's coefficient. -/
def refAt (z : Fin 4096 → EReal) (j : Fin 4096) : EReal := Ideal.div (refNum z j) (∑ x, refNum z x)

/-- The reference's numerator, its greatest score written as a supremum. -/
theorem refNum_eq (z : Fin 4096 → EReal) (j : Fin 4096) : refNum z j = Ideal.exp (z j - Finset.univ.sup z) := by
  unfold refNum
  rw [bits_neg_inf, max_eq_right bot_le]; rfl

/-- The choice by «some entry is positive», of a row of reals. -/
theorem select_any (a : Fin 4096 → ℝ) (x y : EReal) :
    Scalar.select (Finset.univ.fold IntOp.ori (0#1) fun x => BitVec.ofBool (decide (0 < a x))) x y = if ∃ j, 0 < a j then x else y := by
  unfold Scalar.select
  refine if_congr ((Routing.fold_ori Finset.univ _).trans ?_) rfl rfl
  constructor
  · rintro ⟨j, -, h⟩
    refine ⟨j, ?_⟩
    by_contra hn
    rw [decide_eq_false hn] at h
    exact absurd h (by decide)
  · rintro ⟨j, h⟩
    exact ⟨j, Finset.mem_univ j, by rw [decide_eq_true h]; rfl⟩

/-- Scores that are all 0 give uniform coefficients. -/
theorem refAt_zero (z : Fin 4096 → EReal) (hz : ∀ j, z j = 0) (j : Fin 4096) : refAt z j = ((1 / 4096 : ℝ) : EReal) := by
  obtain rfl : z = fun _ => 0 := funext hz
  have h : ∀ j, refNum (fun _ => 0) j = ((1 : ℝ) : EReal) := fun j => by
    rw [refNum_eq, Finset.sup_const Finset.univ_nonempty, sub_zero, ← EReal.coe_zero, Ideal.exp_coe, Real.exp_zero]
  unfold refAt
  simp only [h]
  rw [coe_sum, div_reals _ _ (by simp)]
  simp

/-- Scores that are −∞ off the edges of a row with an edge give its real coefficients. -/
theorem refAt_edges (a e : Fin 4096 → ℝ) (hbit : ∀ j, a j = 0 ∨ a j = 1) (j1 : Fin 4096) (h1 : a j1 = 1) (z : Fin 4096 → EReal)
    (hz : ∀ j, z j = if a j = 1 then ((lrelu (e j) : ℝ) : EReal) else ⊥) (j : Fin 4096) : refAt z j = ((att a e j : ℝ) : EReal) := by
  obtain ⟨j2, -, h2⟩ := Finset.exists_mem_eq_sup Finset.univ Finset.univ_nonempty z
  have hle : z j1 ≤ z j2 := h2 ▸ Finset.le_sup (f := z) (Finset.mem_univ j1)
  have ha2 : a j2 = 1 := by
    by_contra h
    rw [hz j1, hz j2, if_pos h1, if_neg h] at hle
    exact EReal.coe_ne_bot _ (le_bot_iff.mp hle)
  have hnum : ∀ j, refNum z j = ((weight a e j * Real.exp (-lrelu (e j2)) : ℝ) : EReal) := fun j => by
    rw [refNum_eq, h2, hz j2, if_pos ha2, hz j]
    unfold weight
    rcases hbit j with h | h
    · rw [if_neg (by rw [h]; norm_num), h, EReal.bot_sub, Ideal.exp_bot]; simp
    · rw [if_pos h, h, ← EReal.coe_sub, Ideal.exp_coe, one_mul, ← Real.exp_add, sub_eq_add_neg]
  have hpos : 0 < ∑ x, weight a e x :=
    Finset.sum_pos' (fun x _ => mul_nonneg (by rcases hbit x with h | h <;> rw [h]; norm_num) (Real.exp_pos _).le)
      ⟨j1, Finset.mem_univ _, by unfold weight; rw [h1, one_mul]; exact Real.exp_pos _⟩
  have hexp := (Real.exp_pos (-lrelu (e j2))).ne'
  unfold refAt att
  simp only [hnum]
  rw [coe_sum, ← Finset.sum_mul, div_reals _ _ (mul_ne_zero hpos.ne' hexp), if_pos hpos, mul_div_mul_right _ _ hexp]

/-- The reference's coefficients of real scores, over a row of zeros and ones, are the real coefficients. -/
theorem refAt_coe (a e : Fin 4096 → ℝ) (hbit : ∀ j, a j = 0 ∨ a j = 1) (j : Fin 4096) :
    refAt (refScore (fun j => (a j : EReal)) fun j => (e j : EReal)) j = ((att a e j : ℝ) : EReal) := by
  have hlr : ∀ j, (if (0 : EReal) ≤ (e j : EReal) then (e j : EReal) else Ideal.ofBits .f32 0x3E4CCCCD#32 * (e j : EReal))
      = ((lrelu (e j) : ℝ) : EReal) := fun j => by
    unfold lrelu
    rw [bits_slope, ← EReal.coe_mul]
    simp only [EReal.coe_nonneg]
    split_ifs <;> rfl
  have hpos : ∀ j, (0 < a j) = (a j = 1) := fun j => by rcases hbit j with h | h <;> rw [h] <;> norm_num
  by_cases hany : ∃ j1, a j1 = 1
  · obtain ⟨j1, h1⟩ := hany
    refine refAt_edges a e hbit j1 h1 _ (fun j => ?_) j
    unfold refScore
    simp only [EReal.coe_pos, hlr]
    have hex : ∃ j, 0 < a j := ⟨j1, by rw [hpos]; exact h1⟩
    rw [select_any, if_pos hex, bits_neg_inf]
    exact if_congr (Iff.of_eq (hpos j)) rfl rfl
  · have h0 : ∀ j, a j = 0 := fun j => (hbit j).resolve_right fun h => hany ⟨j, h⟩
    have hsum : ∑ x, weight a e x = 0 := Finset.sum_eq_zero fun x _ => by unfold weight; rw [h0, zero_mul]
    rw [refAt_zero _ (fun j => ?_) j]
    · unfold att; rw [if_neg (by rw [hsum]; exact lt_irrefl _)]
    · unfold refScore
      simp only [EReal.coe_pos]
      rw [if_neg (by rw [h0]; exact lt_irrefl _), select_any, if_neg (by rintro ⟨j, h⟩; rw [h0] at h; exact lt_irrefl _ h)]

end Cert.Gat

end
-- ==== Proof.Layers.lean ====
/- The two graph-attention layers over the reals: what both programs compute of finite inputs. -/
module

public import proofs.«01_k».proof.Proof.Scores
public import Idealize.ShloMosaic.Lib.Pointwise

@[expose] public section

noncomputable section

namespace Cert.Gat

open Idealize.ShloMosaic

/-- A real matrix as an array of extended reals. -/
def mat {a b : ℕ} (f : Fin a → Fin b → ℝ) : Vec Ideal ⟨2, ![a, b]⟩ .f32 := fun y => ((f (y 0) (y 1) : ℝ) : EReal)

/-- A real matrix read at a row and a column. -/
theorem mat_ix2 {a b : ℕ} (f : Fin a → Fin b → ℝ) (i : Fin a) (j : Fin b) : mat f (ix2 i j) = ((f i j : ℝ) : EReal) := rfl

/-- An array is a real matrix if it is so entry by entry. -/
theorem eq_mat {a b : ℕ} (x : Vec Ideal ⟨2, ![a, b]⟩ .f32) (f : Fin a → Fin b → ℝ)
    (h : ∀ i j, x (ix2 i j) = ((f i j : ℝ) : EReal)) : x = mat f := by
  funext y
  have e : y = ix2 (y 0) (y 1) := funext fun a => by fin_cases a <;> rfl
  exact (congrArg x e).trans (h _ _)

/-- Features times weights. -/
def feat {n : ℕ} (X : Fin 4096 → Fin 128 → ℝ) (W : Fin 128 → Fin n → ℝ) (i : Fin 4096) (q : Fin n) : ℝ := ∑ f, X i f * W f q

/-- The column of feature `d` of head `k`. -/
def col (k : Fin 2) (d : Fin 64) : Fin 128 := ⟨64 * k.val + d.val, by omega⟩

/-- The features of head `k`. -/
def head (h : Fin 4096 → Fin 128 → ℝ) (k : Fin 2) (i : Fin 4096) (d : Fin 64) : ℝ := h i (col k d)

/-- A node's part of a score: its features against an attention vector. -/
def score (h : Fin 4096 → Fin 64 → ℝ) (a : Fin 64 → ℝ) (i : Fin 4096) : ℝ := ∑ d, h i d * a d

/-- The attention coefficients from the two parts of the scores. -/
def coefs (A : Fin 4096 → Fin 4096 → ℝ) (s d : Fin 4096 → ℝ) (i j : Fin 4096) : ℝ := att (A i) (fun j => s i + d j) j

/-- Features averaged by the coefficients. -/
def mix {n : ℕ} (c : Fin 4096 → Fin 4096 → ℝ) (h : Fin 4096 → Fin n → ℝ) (i : Fin 4096) (d : Fin n) : ℝ := ∑ j, c i j * h j d

/-- The exponential linear unit. -/
def elu (x : ℝ) : ℝ := if 0 < x then x else Real.exp x - 1

/-- The real numbers the eight arguments hold; the adjacency matrix's are zeros and ones. -/
structure Inputs where
  X : Fin 4096 → Fin 128 → ℝ
  A : Fin 4096 → Fin 4096 → ℝ
  W1 : Fin 128 → Fin 128 → ℝ
  src1 : Fin 2 → Fin 64 → ℝ
  dst1 : Fin 2 → Fin 64 → ℝ
  W2 : Fin 128 → Fin 64 → ℝ
  src2 : Fin 1 → Fin 64 → ℝ
  dst2 : Fin 1 → Fin 64 → ℝ
  bit : ∀ i j, A i j = 0 ∨ A i j = 1

variable (I : Inputs)

/-- The first layer's features. -/
def Inputs.h1 : Fin 4096 → Fin 128 → ℝ := feat I.X I.W1

/-- The first layer's scores by source. -/
def Inputs.s1 (k : Fin 2) : Fin 4096 → ℝ := score (head I.h1 k) (I.src1 k)

/-- The first layer's scores by destination. -/
def Inputs.d1 (k : Fin 2) : Fin 4096 → ℝ := score (head I.h1 k) (I.dst1 k)

/-- The first layer's coefficients of head `k`. -/
def Inputs.att1 (k : Fin 2) : Fin 4096 → Fin 4096 → ℝ := coefs I.A (I.s1 k) (I.d1 k)

/-- The head a column belongs to. -/
def headOf (q : Fin 128) : Fin 2 := ⟨q.val / 64, by omega⟩

/-- The first layer's result, both heads side by side. -/
def Inputs.g (i : Fin 4096) (q : Fin 128) : ℝ := elu (mix (I.att1 (headOf q)) I.h1 i q)

/-- The second layer's features. -/
def Inputs.h2 : Fin 4096 → Fin 64 → ℝ := feat I.g I.W2

/-- The second layer's scores by source. -/
def Inputs.s2 : Fin 4096 → ℝ := score I.h2 (I.src2 0)

/-- The second layer's scores by destination. -/
def Inputs.d2 : Fin 4096 → ℝ := score I.h2 (I.dst2 0)

/-- The second layer's coefficients. -/
def Inputs.att2 : Fin 4096 → Fin 4096 → ℝ := coefs I.A I.s2 I.d2

/-- The second layer's result. -/
def Inputs.out : Fin 4096 → Fin 64 → ℝ := mix I.att2 I.h2

end Cert.Gat

end
-- ==== Proof.BlockValues.lean ====
/- The kernel's output blocks over the extended reals, of input blocks that hold reals. -/
module

public import proofs.«01_k».proof.Proof.Blocks
public import proofs.«01_k».proof.Proof.Layers
public import Idealize.ShloMosaic.Lib.Pointwise

@[expose] public section

set_option maxRecDepth 16384

noncomputable section

namespace Cert.Gat

open Idealize.ShloMosaic Cert.KernelIdeal Cert.KernelIdeal.Gen

/-- The named constant is the real 1 / log 2. -/
theorem named_real (w : BitVec 32) : Named.named (F := Ideal) κ (φ := .f32) "log2e" w = ((log2e : ℝ) : EReal) := rfl

section One
variable (X : Fin 4096 → Fin 128 → ℝ) (W : Fin 128 → Fin 128 → ℝ) (a : Fin 2 → Fin 64 → ℝ)

/-- The first projection of reals: features times weights. -/
theorem out0_4_mat : out0_4 (F := Ideal) (mat X) (mat W) = mat (feat X W) := by
  refine eq_mat _ _ fun i q => ?_
  pointwise [out0_4, k0_pay1]
  simp only [mat_ix2]
  exact coe_sum_mul _ _

/-- A score written out over the columns `p` of head `k`. -/
theorem score_cols (k : Fin 2) (p : Fin 64 → Fin 128) (hp : ∀ x, (p x).val = 64 * k.val + x.val) (i : Fin 4096) :
    ∑ x, (∑ f, X i f * W f (p x)) * a k x = score (head (feat X W) k) (a k) i := by
  obtain rfl : p = col k := funext fun x => Fin.ext (hp x)
  rfl

/-- The first projection's source scores, scaled by 1 / log 2. -/
theorem out0_5_mat : out0_5 (F := Ideal) (mat X) (mat W) (mat a)
    = mat fun i k => score (head (feat X W) k) (a k) i * log2e := by
  refine eq_mat _ _ fun i k => ?_
  pointwise [out0_5, k0_pay4, k0_pay3, k0_pay2, k0_pay1, row0, row1]
  simp only [mat_ix2, named_real, ← EReal.coe_mul, coe_sum]
  by_cases h : k.val < 1
  · rw [dif_pos h]
    obtain rfl : k = 0 := Fin.ext (by omega)
    rw [← score_cols X W a 0 (fun x => ⟨x.val, by omega⟩) (fun x => by simp) i]
  · rw [dif_neg h]
    obtain rfl : k = 1 := Fin.ext (show k.val = 1 by omega)
    rw [← score_cols X W a 1 (fun x => ⟨64 + x.val, by omega⟩) (fun x => by simp) i]
    rfl

/-- The first projection's destination scores, scaled by 1 / log 2. -/
theorem out0_6_mat : out0_6 (F := Ideal) (mat X) (mat W) (mat a)
    = mat fun k i => score (head (feat X W) k) (a k) i * log2e := by
  refine eq_mat _ _ fun k i => ?_
  pointwise [out0_6, k0_pay5, k0_pay3, k0_pay2, k0_pay1, row0, row1]
  simp only [mat_ix2, named_real, ← EReal.coe_mul, coe_sum]
  simp only [mul_comm (a _ _)]
  by_cases h : k.val < 1
  · rw [dif_pos h]
    obtain rfl : k = 0 := Fin.ext (by omega)
    rw [← score_cols X W a 0 (fun x => ⟨x.val, by omega⟩) (fun x => by simp) i]
  · rw [dif_neg h]
    obtain rfl : k = 1 := Fin.ext (show k.val = 1 by omega)
    rw [← score_cols X W a 1 (fun x => ⟨64 + x.val, by omega⟩) (fun x => by simp) i]
    rfl
end One

section Two
variable (X : Fin 4096 → Fin 128 → ℝ) (W : Fin 128 → Fin 64 → ℝ) (a : Fin 1 → Fin 64 → ℝ)

/-- The second projection of reals: features times weights. -/
theorem out2_4_mat : out2_4 (F := Ideal) (mat X) (mat W) = mat (feat X W) := by
  refine eq_mat _ _ fun i q => ?_
  pointwise [out2_4, k2_pay1]
  simp only [mat_ix2]
  exact coe_sum_mul _ _

/-- The second projection's source scores, scaled by 1 / log 2. -/
theorem out2_5_mat : out2_5 (F := Ideal) (mat X) (mat W) (mat a) = mat fun i k => score (feat X W) (a k) i * log2e := by
  refine eq_mat _ _ fun i k => ?_
  pointwise [out2_5, k2_pay1, k2_pay2]
  simp only [mat_ix2, named_real, ← EReal.coe_mul, coe_sum]
  rfl

/-- The second projection's destination scores, scaled by 1 / log 2. -/
theorem out2_6_mat : out2_6 (F := Ideal) (mat X) (mat W) (mat a) = mat fun k i => score (feat X W) (a k) i * log2e := by
  refine eq_mat _ _ fun k i => ?_
  pointwise [out2_6, k2_pay1, k2_pay3]
  simp only [mat_ix2, named_real, ← EReal.coe_mul, coe_sum]
  simp only [mul_comm (a _ _)]
  rfl
end Two

section Attention
/-- The kernel's coefficients at an entry. -/
theorem coef_at (x0 : Vec Ideal S256x4096 .f32) (x1 : Vec Ideal S256x1 .f32) (x2 : Vec Ideal S1x4096 .f32) (i : Fin 256) (j : Fin 4096) :
    coef x0 x1 x2 (ix2 i j) = coefAt (fun j => x0 (ix2 i j)) (x1 (ix2 i 0)) (fun j => x2 (ix2 0 j)) j := by
  pointwise [coef, k1_pay2]
  rfl

variable (r : Fin 256 → Fin 4096) (A : Fin 4096 → Fin 4096 → ℝ)

/-- The kernel's coefficients of the rows `r`. -/
theorem coef_mat (s d : Fin 4096 → ℝ) :
    coef (F := Ideal) (mat fun i => A (r i)) (mat fun i _ => s (r i) * log2e) (mat fun _ j => d j * log2e) = mat fun i => coefs A s d (r i) := by
  refine eq_mat _ _ fun i j => ?_
  rw [coef_at]
  exact coefAt_coe (A (r i)) (s (r i)) d j

variable (s d : Fin 2 → Fin 4096 → ℝ) (H : Fin 4096 → Fin 128 → ℝ)

/-- The column of source scores of head 0. -/
theorem src0_mat : src0 (F := Ideal) (mat fun i k => s k (r i) * log2e) = mat fun i _ => s 0 (r i) * log2e := by
  refine eq_mat _ _ fun i j => ?_
  pointwise [src0]
  obtain rfl : j = 0 := Subsingleton.elim _ _
  rfl

/-- The column of source scores of head 1. -/
theorem src1_mat : src1 (F := Ideal) (mat fun i k => s k (r i) * log2e) = mat fun i _ => s 1 (r i) * log2e := by
  refine eq_mat _ _ fun i j => ?_
  pointwise [src1]
  obtain rfl : j = 0 := Subsingleton.elim _ _
  rfl

/-- The row of destination scores of head 0. -/
theorem dst0_mat : dst0 (F := Ideal) (mat fun k j => d k j * log2e) = mat fun _ j => d 0 j * log2e := by
  refine eq_mat _ _ fun i j => ?_
  pointwise [dst0]
  obtain rfl : i = 0 := Subsingleton.elim _ _
  rfl

/-- The row of destination scores of head 1. -/
theorem dst1_mat : dst1 (F := Ideal) (mat fun k j => d k j * log2e) = mat fun _ j => d 1 j * log2e := by
  refine eq_mat _ _ fun i j => ?_
  pointwise [dst1]
  obtain rfl : i = 0 := Subsingleton.elim _ _
  rfl

/-- The first layer's block of coefficients, entry by entry. -/
theorem out1_4_at (y : S16384x128.Idx) :
    out1_4 (F := Ideal) (mat fun i => A (r i)) (mat fun i k => s k (r i) * log2e) (mat fun k j => d k j * log2e) y
      = ((coefs A (s ⟨(y 0).val % 2, by omega⟩) (d ⟨(y 0).val % 2, by omega⟩)
          (r ⟨(y 0).val / 64, by have h : (y 0).val < 16384 := (y 0).isLt; omega⟩)
          ⟨128 * ((y 0).val % 64 / 2) + (y 1).val, by have h : (y 1).val < 128 := (y 1).isLt; omega⟩ : ℝ) : EReal) := by
  unfold out1_4 weave2
  rw [src0_mat, src1_mat, dst0_mat, dst1_mat, coef_mat, coef_mat]
  split_ifs with h
  · have e : (⟨(y 0).val % 2, by omega⟩ : Fin 2) = 0 := Fin.ext h
    rw [e]; rfl
  · have e : (⟨(y 0).val % 2, by omega⟩ : Fin 2) = 1 := Fin.ext (show (y 0).val % 2 = 1 by omega)
    rw [e]; rfl

/-- The kernel's activation of a real. -/
theorem elu_coe (x : ℝ) : (if 0 < (x : EReal) then (x : EReal) else Ideal.exp (x : EReal) - 1) = ((elu x : ℝ) : EReal) := by
  unfold elu
  simp only [EReal.coe_pos]
  split_ifs
  · rfl
  · rw [Ideal.exp_coe, EReal.coe_sub, EReal.coe_one]

/-- The first layer's block of results. -/
theorem out1_5_mat :
    out1_5 (F := Ideal) (mat fun i => A (r i)) (mat fun i k => s k (r i) * log2e) (mat fun k j => d k j * log2e) (mat H)
      = mat fun i q => elu (mix (coefs A (s (headOf q)) (d (headOf q))) H (r i) q) := by
  refine eq_mat _ _ fun i q => ?_
  unfold out1_5
  rw [src0_mat, src1_mat, dst0_mat, dst1_mat, coef_mat, coef_mat]
  generalize hc0 : coefs A (s 0) (d 0) = c0
  generalize hc1 : coefs A (s 1) (d 1) = c1
  pointwise [k1_pay1, k1_pay35, k1_pay74, k1_pay75, k1_pay76, feat0, feat1]
  simp only [mat_ix2, coe_sum_mul]
  by_cases h : q.val < 64
  · simp only [dif_pos h]
    rw [elu_coe, show headOf q = 0 from Fin.ext (show q.val / 64 = 0 by omega), hc0]
    rfl
  · simp only [dif_neg h]
    rw [elu_coe, show headOf q = 1 from Fin.ext (show q.val / 64 = 1 by omega), hc1]
    refine congrArg (fun x : ℝ => ((elu x : ℝ) : EReal))
      (Finset.sum_congr rfl fun j _ => congrArg (fun p => c1 (r i) j * H j p) (Fin.ext (?_ : 64 + (q.val - 64) = q.val)))
    omega

end Attention

section AttentionTwo
variable (r : Fin 256 → Fin 4096) (A : Fin 4096 → Fin 4096 → ℝ) (s d : Fin 4096 → ℝ) (H : Fin 4096 → Fin 64 → ℝ)

/-- The second layer's block of coefficients, entry by entry. -/
theorem out3_4_at (y : S8192x128.Idx) :
    out3_4 (F := Ideal) (mat fun i => A (r i)) (mat fun i _ => s (r i) * log2e) (mat fun _ j => d j * log2e) y
      = ((coefs A s d (r ⟨(y 0).val / 32, by have h : (y 0).val < 8192 := (y 0).isLt; omega⟩)
          ⟨128 * ((y 0).val % 32) + (y 1).val, by have h : (y 1).val < 128 := (y 1).isLt; omega⟩ : ℝ) : EReal) := by
  unfold out3_4 weave1
  rw [coef_mat]
  rfl

/-- The second layer's block of results, transposed. -/
theorem out3_5_mat :
    out3_5 (F := Ideal) (mat fun i => A (r i)) (mat fun i _ => s (r i) * log2e) (mat fun _ j => d j * log2e) (mat H)
      = mat fun q i => mix (coefs A s d) H (r i) q := by
  refine eq_mat _ _ fun q i => ?_
  unfold out3_5
  rw [coef_mat]
  pointwise [k3_pay5]
  simp only [mat_ix2, coe_sum_mul]
  unfold mix
  simp only [mul_comm]

end AttentionTwo

end Cert.Gat

end
-- ==== Proof.Arrays.lean ====
/- What each launch leaves in its output arrays over the extended reals, when the arrays it reads hold reals. -/
module

public import proofs.«01_k».proof.Proof.BlockValues
public import proofs.«01_k».proof.Proof.Launches
public import Idealize.ShloMosaic.Lib.Pipeline.ValueKit

@[expose] public section

set_option maxRecDepth 16384

noncomputable section

namespace Cert.Gat

open Cert.KernelIdeal Cert.KernelIdeal.Gen
open Idealize.ShloMosaic Idealize.ShloMosaic.TcCoe
open Idealize.ShloMosaic.Pipeline (Dat Cfg Window)

variable (V : (c : Dev nD) → (b : Ref sig .tc) → Buf (Elt Ideal) ((c : Thread nD τ).loc b)) (c : Dev nD)

/-! ## Where the blocks lie -/

/-- Where launch 0's blocks lie at each step. -/
theorem idx0 : ∀ t : Fin grid0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] := by decide +kernel
/-- Where launch 2's blocks lie at each step. -/
theorem idx2 : ∀ t : Fin grid2.N, win2_0.index t = ![0, 0] ∧ win2_1.index t = ![0, 0] ∧ win2_2.index t = ![0, 0] ∧ win2_3.index t = ![0, 0]
    ∧ win2_4.index t = ![0, 0] ∧ win2_5.index t = ![0, 0] ∧ win2_6.index t = ![0, 0] := by decide +kernel
/-- Where launch 1's blocks lie at each step. -/
theorem idx1 : ∀ t : Fin grid1.N, win1_0.index t = ![t.val, 0] ∧ win1_1.index t = ![t.val, 0] ∧ win1_2.index t = ![0, 0] ∧ win1_3.index t = ![0, 0]
    ∧ win1_4.index t = ![t.val, 0] ∧ win1_5.index t = ![t.val, 0] := by decide +kernel
/-- Where launch 3's blocks lie at each step. -/
theorem idx3 : ∀ t : Fin grid3.N, win3_0.index t = ![t.val, 0] ∧ win3_1.index t = ![t.val, 0] ∧ win3_2.index t = ![0, 0] ∧ win3_3.index t = ![0, 0]
    ∧ win3_4.index t = ![t.val, 0] ∧ win3_5.index t = ![0, t.val] := by decide +kernel

/-! ## The first layer's projection -/

section Projection
variable (X : Fin 4096 → Fin 128 → ℝ) (W : Fin 128 → Fin 128 → ℝ) (s d : Fin 2 → Fin 64 → ℝ)

/-- What launch 0 reads of its argument 0 at a step. -/
theorem in0_0 (t : Fin cfg0.N) : (iblk0 V c 0 t : Vec Ideal S4096x128 .f32) = V c main_arg0 := by
  funext y; blk_simp [iblk0]; blk_ext [idx0 t]
/-- What launch 0 reads of its argument 1 at a step. -/
theorem in0_1 (t : Fin cfg0.N) : (iblk0 V c 1 t : Vec Ideal S128x128 .f32) = V c main_arg2 := by
  funext y; blk_simp [iblk0]; blk_ext [idx0 t]
/-- What launch 0 reads of its argument 2 at a step. -/
theorem in0_2 (t : Fin cfg0.N) : (iblk0 V c 2 t : Vec Ideal S2x64 .f32) = V c main_arg3 := by
  funext y; blk_simp [iblk0]; blk_ext [idx0 t]
/-- What launch 0 reads of its argument 3 at a step. -/
theorem in0_3 (t : Fin cfg0.N) : (iblk0 V c 3 t : Vec Ideal S2x64 .f32) = V c main_arg4 := by
  funext y; blk_simp [iblk0]; blk_ext [idx0 t]

/-- The first projection leaves the features. -/
theorem arr0_4 (h0 : V c main_arg0 = mat X) (h1 : V c main_arg2 = mat W) : (dat0 V c).arrAt 4 cfg0.N = mat (feat X W) := by
  refine (dat0 V c).arrAt_eq_of_covers 4 _ (by decide +kernel) fun t hf y => ?_
  blk_simp
  rw [after0_4, in0_0, in0_1, h0, h1, out0_4_mat]
  blk_ext [idx0 t]

/-- The first projection leaves the scaled source scores. -/
theorem arr0_5 (h0 : V c main_arg0 = mat X) (h1 : V c main_arg2 = mat W) (h2 : V c main_arg3 = mat s) :
    (dat0 V c).arrAt 5 cfg0.N = mat fun i k => score (head (feat X W) k) (s k) i * log2e := by
  refine (dat0 V c).arrAt_eq_of_covers 5 _ (by decide +kernel) fun t hf y => ?_
  blk_simp
  rw [after0_5, in0_0, in0_1, in0_2, h0, h1, h2, out0_5_mat]
  blk_ext [idx0 t]

/-- The first projection leaves the scaled destination scores. -/
theorem arr0_6 (h0 : V c main_arg0 = mat X) (h1 : V c main_arg2 = mat W) (h3 : V c main_arg4 = mat d) :
    (dat0 V c).arrAt 6 cfg0.N = mat fun k i => score (head (feat X W) k) (d k) i * log2e := by
  refine (dat0 V c).arrAt_eq_of_covers 6 _ (by decide +kernel) fun t hf y => ?_
  blk_simp
  rw [after0_6, in0_0, in0_1, in0_3, h0, h1, h3, out0_6_mat]
  blk_ext [idx0 t]

end Projection

/-! ## The second layer's projection -/

section ProjectionTwo
variable (X : Fin 4096 → Fin 128 → ℝ) (W : Fin 128 → Fin 64 → ℝ) (s d : Fin 1 → Fin 64 → ℝ)

/-- What launch 2 reads of its argument 0 at a step. -/
theorem in2_0 (t : Fin cfg2.N) : (iblk2 V c 0 t : Vec Ideal S4096x128 .f32) = V c main_v1_1 := by
  funext y; blk_simp [iblk2]; blk_ext [idx2 t]
/-- What launch 2 reads of its argument 1 at a step. -/
theorem in2_1 (t : Fin cfg2.N) : (iblk2 V c 1 t : Vec Ideal S128x64 .f32) = V c main_arg5 := by
  funext y; blk_simp [iblk2]; blk_ext [idx2 t]
/-- What launch 2 reads of its argument 2 at a step. -/
theorem in2_2 (t : Fin cfg2.N) : (iblk2 V c 2 t : Vec Ideal S1x64 .f32) = V c main_arg6 := by
  funext y; blk_simp [iblk2]; blk_ext [idx2 t]
/-- What launch 2 reads of its argument 3 at a step. -/
theorem in2_3 (t : Fin cfg2.N) : (iblk2 V c 3 t : Vec Ideal S1x64 .f32) = V c main_arg7 := by
  funext y; blk_simp [iblk2]; blk_ext [idx2 t]

/-- The second projection leaves the features. -/
theorem arr2_4 (h0 : V c main_v1_1 = mat X) (h1 : V c main_arg5 = mat W) : (dat2 V c).arrAt 4 cfg2.N = mat (feat X W) := by
  refine (dat2 V c).arrAt_eq_of_covers 4 _ (by decide +kernel) fun t hf y => ?_
  blk_simp
  rw [after2_4, in2_0, in2_1, h0, h1, out2_4_mat]
  blk_ext [idx2 t]

/-- The second projection leaves the scaled source scores. -/
theorem arr2_5 (h0 : V c main_v1_1 = mat X) (h1 : V c main_arg5 = mat W) (h2 : V c main_arg6 = mat s) :
    (dat2 V c).arrAt 5 cfg2.N = mat fun i k => score (feat X W) (s k) i * log2e := by
  refine (dat2 V c).arrAt_eq_of_covers 5 _ (by decide +kernel) fun t hf y => ?_
  blk_simp
  rw [after2_5, in2_0, in2_1, in2_2, h0, h1, h2, out2_5_mat]
  blk_ext [idx2 t]

/-- The second projection leaves the scaled destination scores. -/
theorem arr2_6 (h0 : V c main_v1_1 = mat X) (h1 : V c main_arg5 = mat W) (h3 : V c main_arg7 = mat d) :
    (dat2 V c).arrAt 6 cfg2.N = mat fun k i => score (feat X W) (d k) i * log2e := by
  refine (dat2 V c).arrAt_eq_of_covers 6 _ (by decide +kernel) fun t hf y => ?_
  blk_simp
  rw [after2_6, in2_0, in2_1, in2_3, h0, h1, h3, out2_6_mat]
  blk_ext [idx2 t]

end ProjectionTwo

/-! ## The attention launches -/

/-- A real matrix read at an index whose coordinates are known. -/
theorem mat_at {a b : ℕ} (f : Fin a → Fin b → ℝ) (y : (⟨2, ![a, b]⟩ : Shape).Idx) (i : Fin a) (j : Fin b)
    (hi : (y 0).val = i.val) (hj : (y 1).val = j.val) : mat f y = ((f i j : ℝ) : EReal) := by
  have ei : (y 0 : Fin a) = i := Fin.ext hi
  have ej : (y 1 : Fin b) = j := Fin.ext hj
  unfold mat
  rw [ei, ej]

/-- The rows of point `t`. -/
def rowAt (t : Fin 16) (i : Fin 256) : Fin 4096 := ⟨256 * t.val + i.val, by omega⟩

section Attention
variable (A : Fin 4096 → Fin 4096 → ℝ) (s d : Fin 2 → Fin 4096 → ℝ) (H : Fin 4096 → Fin 128 → ℝ)

/-- What launch 1 reads of its argument 0 at a step. -/
theorem in1_0 (h : V c main_arg1 = mat A) (t : Fin cfg1.N) : (iblk1 V c 0 t : Vec Ideal S256x4096 .f32) = mat fun i => A (rowAt t i) := by
  refine eq_mat _ _ fun i j => ?_
  have e : (iblk1 V c 0 t : Vec Ideal S256x4096 .f32) (ix2 i j) = (V c main_arg1 : Vec Ideal S4096x4096 .f32) (ix2 (rowAt t i) j) := by
    blk_simp [iblk1]; unfold rowAt; blk_ext [idx1 t]
  rw [e, h]; rfl
/-- What launch 1 reads of its argument 1 at a step. -/
theorem in1_1 (h : V c main_v0_1 = mat fun i k => s k i * log2e) (t : Fin cfg1.N) :
    (iblk1 V c 1 t : Vec Ideal S256x2 .f32) = mat fun i k => s k (rowAt t i) * log2e := by
  refine eq_mat _ _ fun i j => ?_
  have e : (iblk1 V c 1 t : Vec Ideal S256x2 .f32) (ix2 i j) = (V c main_v0_1 : Vec Ideal S4096x2 .f32) (ix2 (rowAt t i) j) := by
    blk_simp [iblk1]; unfold rowAt; blk_ext [idx1 t]
  rw [e, h]; rfl
/-- What launch 1 reads of its argument 2 at a step. -/
theorem in1_2 (t : Fin cfg1.N) : (iblk1 V c 2 t : Vec Ideal S2x4096 .f32) = V c main_v0_2 := by
  funext y; blk_simp [iblk1]; blk_ext [idx1 t]
/-- What launch 1 reads of its argument 3 at a step. -/
theorem in1_3 (t : Fin cfg1.N) : (iblk1 V c 3 t : Vec Ideal S4096x128 .f32) = V c main_v0_0 := by
  funext y; blk_simp [iblk1]; blk_ext [idx1 t]

/-- The first layer's coefficients as the launch lays them out. -/
def woven2 (f : Fin 2 → Fin 4096 → Fin 4096 → ℝ) : Vec Ideal S262144x128 .f32 := fun y =>
  ((f ⟨(y 0).val % 2, by omega⟩ ⟨(y 0).val / 64, by have h : (y 0).val < 262144 := (y 0).isLt; omega⟩
    ⟨128 * ((y 0).val % 64 / 2) + (y 1).val, by have h : (y 1).val < 128 := (y 1).isLt; omega⟩ : ℝ) : EReal)

/-- The first layer's layout read at the coefficient of head, row and column. -/
theorem woven2_at (f : Fin 2 → Fin 4096 → Fin 4096 → ℝ) (y : S262144x128.Idx) (k : Fin 2) (i j : Fin 4096)
    (hk : (y 0).val % 2 = k.val) (hi : (y 0).val / 64 = i.val) (hj : 128 * ((y 0).val % 64 / 2) + (y 1).val = j.val) :
    woven2 f y = ((f k i j : ℝ) : EReal) := by
  unfold woven2
  congr 3 <;> exact Fin.ext (by assumption)

/-- The first attention launch leaves both heads' coefficients, interleaved. -/
theorem arr1_4 (h0 : V c main_arg1 = mat A) (h1 : V c main_v0_1 = mat fun i k => s k i * log2e)
    (h2 : V c main_v0_2 = mat fun k j => d k j * log2e) :
    (dat1 V c).arrAt 4 cfg1.N = woven2 fun k => coefs A (s k) (d k) := by
  refine (dat1 V c).arrAt_eq_of_covers 4 _ (by decide +kernel) fun t hf y => ?_
  blk_simp
  have e0 : ((((cfg1.win 4).blk t).view.emb y) 0).val = 16384 * t.val + (y 0).val := by blk_simp [idx1 t]; omega
  have e1 : ((((cfg1.win 4).blk t).view.emb y) 1).val = (y 1).val := by blk_simp [idx1 t]
  have hy : (y 0).val < 16384 := (y 0).isLt
  rw [after1_4, in1_0 V c A h0, in1_1 V c s h1, in1_2, h2, out1_4_at]
  refine (woven2_at (fun k => coefs A (s k) (d k)) _ _ _ _ ?_ ?_ ?_).symm
  · show ((((cfg1.win 4).blk t).view.emb y) 0).val % 2 = (y 0).val % 2
    rw [e0]; omega
  · show ((((cfg1.win 4).blk t).view.emb y) 0).val / 64 = 256 * t.val + (y 0).val / 64
    rw [e0]; omega
  · show 128 * (((((cfg1.win 4).blk t).view.emb y) 0).val % 64 / 2) + ((((cfg1.win 4).blk t).view.emb y) 1).val
      = 128 * ((y 0).val % 64 / 2) + (y 1).val
    rw [e0, e1]; omega

/-- The first attention launch leaves the averaged features after the activation, the heads side by side. -/
theorem arr1_5 (h0 : V c main_arg1 = mat A) (h1 : V c main_v0_1 = mat fun i k => s k i * log2e)
    (h2 : V c main_v0_2 = mat fun k j => d k j * log2e) (h3 : V c main_v0_0 = mat H) :
    (dat1 V c).arrAt 5 cfg1.N = mat fun i q => elu (mix (coefs A (s (headOf q)) (d (headOf q))) H i q) := by
  refine (dat1 V c).arrAt_eq_of_covers 5 _ (by decide +kernel) fun t hf y => ?_
  blk_simp
  have e0 : ((((cfg1.win 5).blk t).view.emb y) 0).val = 256 * t.val + (y 0).val := by blk_simp [idx1 t]; omega
  have e1 : ((((cfg1.win 5).blk t).view.emb y) 1).val = (y 1).val := by blk_simp [idx1 t]
  rw [after1_5, in1_0 V c A h0, in1_1 V c s h1, in1_2, h2, in1_3, h3, out1_5_mat]
  exact (mat_at (fun i q => elu (mix (coefs A (s (headOf q)) (d (headOf q))) H i q)) _ (rowAt t (y 0)) (y 1) e0 e1).symm

end Attention

section AttentionTwo
variable (A : Fin 4096 → Fin 4096 → ℝ) (s d : Fin 4096 → ℝ) (H : Fin 4096 → Fin 64 → ℝ)

/-- What launch 3 reads of its argument 0 at a step. -/
theorem in3_0 (h : V c main_arg1 = mat A) (t : Fin cfg3.N) : (iblk3 V c 0 t : Vec Ideal S256x4096 .f32) = mat fun i => A (rowAt t i) := by
  refine eq_mat _ _ fun i j => ?_
  have e : (iblk3 V c 0 t : Vec Ideal S256x4096 .f32) (ix2 i j) = (V c main_arg1 : Vec Ideal S4096x4096 .f32) (ix2 (rowAt t i) j) := by
    blk_simp [iblk3]; unfold rowAt; blk_ext [idx3 t]
  rw [e, h]; rfl
/-- What launch 3 reads of its argument 1 at a step. -/
theorem in3_1 (h : V c main_v2_1 = mat fun i _ => s i * log2e) (t : Fin cfg3.N) :
    (iblk3 V c 1 t : Vec Ideal S256x1 .f32) = mat fun i _ => s (rowAt t i) * log2e := by
  refine eq_mat _ _ fun i j => ?_
  have e : (iblk3 V c 1 t : Vec Ideal S256x1 .f32) (ix2 i j) = (V c main_v2_1 : Vec Ideal S4096x1 .f32) (ix2 (rowAt t i) j) := by
    blk_simp [iblk3]; unfold rowAt; blk_ext [idx3 t]
  rw [e, h]; rfl
/-- What launch 3 reads of its argument 2 at a step. -/
theorem in3_2 (t : Fin cfg3.N) : (iblk3 V c 2 t : Vec Ideal S1x4096 .f32) = V c main_v2_2 := by
  funext y; blk_simp [iblk3]; blk_ext [idx3 t]
/-- What launch 3 reads of its argument 3 at a step. -/
theorem in3_3 (t : Fin cfg3.N) : (iblk3 V c 3 t : Vec Ideal S4096x64 .f32) = V c main_v2_0 := by
  funext y; blk_simp [iblk3]; blk_ext [idx3 t]

/-- The second layer's coefficients as the launch lays them out. -/
def woven1 (f : Fin 4096 → Fin 4096 → ℝ) : Vec Ideal S131072x128 .f32 := fun y =>
  ((f ⟨(y 0).val / 32, by have h : (y 0).val < 131072 := (y 0).isLt; omega⟩
    ⟨128 * ((y 0).val % 32) + (y 1).val, by have h : (y 1).val < 128 := (y 1).isLt; omega⟩ : ℝ) : EReal)

/-- The second layer's layout read at the coefficient of row and column. -/
theorem woven1_at (f : Fin 4096 → Fin 4096 → ℝ) (y : S131072x128.Idx) (i j : Fin 4096)
    (hi : (y 0).val / 32 = i.val) (hj : 128 * ((y 0).val % 32) + (y 1).val = j.val) : woven1 f y = ((f i j : ℝ) : EReal) := by
  unfold woven1
  congr 2 <;> exact Fin.ext (by assumption)

/-- The second attention launch leaves the coefficients. -/
theorem arr3_4 (h0 : V c main_arg1 = mat A) (h1 : V c main_v2_1 = mat fun i _ => s i * log2e)
    (h2 : V c main_v2_2 = mat fun _ j => d j * log2e) : (dat3 V c).arrAt 4 cfg3.N = woven1 (coefs A s d) := by
  refine (dat3 V c).arrAt_eq_of_covers 4 _ (by decide +kernel) fun t hf y => ?_
  blk_simp
  have e0 : ((((cfg3.win 4).blk t).view.emb y) 0).val = 8192 * t.val + (y 0).val := by blk_simp [idx3 t]; omega
  have e1 : ((((cfg3.win 4).blk t).view.emb y) 1).val = (y 1).val := by blk_simp [idx3 t]
  have hy : (y 0).val < 8192 := (y 0).isLt
  rw [after3_4, in3_0 V c A h0, in3_1 V c s h1, in3_2, h2, out3_4_at]
  refine (woven1_at (coefs A s d) _ _ _ ?_ ?_).symm
  · show ((((cfg3.win 4).blk t).view.emb y) 0).val / 32 = 256 * t.val + (y 0).val / 32
    rw [e0]; omega
  · show 128 * (((((cfg3.win 4).blk t).view.emb y) 0).val % 32) + ((((cfg3.win 4).blk t).view.emb y) 1).val
      = 128 * ((y 0).val % 32) + (y 1).val
    rw [e0, e1]; omega

/-- The second attention launch leaves the averaged features, transposed. -/
theorem arr3_5 (h0 : V c main_arg1 = mat A) (h1 : V c main_v2_1 = mat fun i _ => s i * log2e)
    (h2 : V c main_v2_2 = mat fun _ j => d j * log2e) (h3 : V c main_v2_0 = mat H) :
    (dat3 V c).arrAt 5 cfg3.N = mat fun q i => mix (coefs A s d) H i q := by
  refine (dat3 V c).arrAt_eq_of_covers 5 _ (by decide +kernel) fun t hf y => ?_
  blk_simp
  have e0 : ((((cfg3.win 5).blk t).view.emb y) 0).val = (y 0).val := by blk_simp [idx3 t]
  have e1 : ((((cfg3.win 5).blk t).view.emb y) 1).val = 256 * t.val + (y 1).val := by blk_simp [idx3 t]; omega
  rw [after3_5, in3_0 V c A h0, in3_1 V c s h1, in3_2, h2, in3_3, h3, out3_5_mat]
  exact (mat_at (fun q i => mix (coefs A s d) H i q) _ (y 0) (rowAt t (y 1)) e0 e1).symm

end AttentionTwo

end Cert.Gat

end
-- ==== Proof.Results.lean ====
/- The arguments both programs take and the results both return, as arrays of reals. -/
module

public import proofs.«01_k».proof.Proof.Layers

@[expose] public section

noncomputable section

namespace Cert.Gat

open Idealize.ShloMosaic

/-- Eight arrays hold the real numbers of `I`. -/
structure Inputs.Are (I : Inputs) (x0 : Vec Ideal ⟨2, ![4096, 128]⟩ .f32) (x1 : Vec Ideal ⟨2, ![4096, 4096]⟩ .f32) (x2 : Vec Ideal ⟨2, ![128, 128]⟩ .f32)
    (x3 x4 : Vec Ideal ⟨2, ![2, 64]⟩ .f32) (x5 : Vec Ideal ⟨2, ![128, 64]⟩ .f32) (x6 x7 : Vec Ideal ⟨2, ![1, 64]⟩ .f32) : Prop where
  h0 : x0 = mat I.X
  h1 : x1 = mat I.A
  h2 : x2 = mat I.W1
  h3 : x3 = mat I.src1
  h4 : x4 = mat I.dst1
  h5 : x5 = mat I.W2
  h6 : x6 = mat I.src2
  h7 : x7 = mat I.dst2

/-- The first layer's coefficients as the array both programs return. -/
def Inputs.cube1 (I : Inputs) : Vec Ideal ⟨3, ![4096, 4096, 2]⟩ .f32 := fun y => ((I.att1 (y 2) (y 0) (y 1) : ℝ) : EReal)

/-- The second layer's coefficients as the array both programs return. -/
def Inputs.cube2 (I : Inputs) : Vec Ideal ⟨3, ![4096, 4096, 1]⟩ .f32 := fun y => ((I.att2 (y 0) (y 1) : ℝ) : EReal)

/-- Arrays of three coordinates that agree at every index are equal. -/
theorem cube_ext {a b n : ℕ} (x z : Vec Ideal ⟨3, ![a, b, n]⟩ .f32)
    (h : ∀ i j k, x (ix3 i j k) = z (ix3 i j k)) : x = z := by
  funext y
  have e : y = ix3 (y 0) (y 1) (y 2) := funext fun a => by fin_cases a <;> rfl
  exact (congrArg x e).trans ((h _ _ _).trans (congrArg z e).symm)

end Cert.Gat

end
-- ==== Proof.KernelValue.lean ====
/- The kernel's results over the extended reals, of arguments that hold reals: the two layers' coefficients and the last layer's rows. -/
module

public import proofs.«01_k».proof.Proof.Arrays
public import proofs.«01_k».proof.Proof.Results
public import Idealize.ShloMosaic.Lib.StableHlo.Run

@[expose] public section

set_option maxRecDepth 16384

noncomputable section

namespace Cert.Gat

open Cert.KernelIdeal Cert.KernelIdeal.Gen
open Idealize.ShloMosaic Idealize.ShloMosaic.TcCoe

/-! ## The host operations that lay the coefficients out -/

/-- The first layer's coefficients from the array its launch leaves. -/
def unweave2 (x : Vec Ideal S262144x128 .f32) : Vec Ideal S4096x4096x2 .f32 :=
  shapeCast S4096x4096x2 (transpose S4096x32x128x2 [0, 1, 3, 2] (shapeCast S4096x32x2x128 x shapeCasts_S262144x128_S4096x32x2x128)
    transposes_S4096x32x2x128_S4096x32x128x2_0_1_3_2) shapeCasts_S4096x32x128x2_S4096x4096x2

/-- The second layer's coefficients from the array its launch leaves. -/
def unweave1 (x : Vec Ideal S131072x128 .f32) : Vec Ideal S4096x4096x1 .f32 := shapeCast S4096x4096x1 x shapeCasts_S131072x128_S4096x4096x1

/-- The second result is the first attention array laid out anew. -/
theorem tail_v6 (V : Valuation τ sig (Elt Ideal)) : StableHlo.after hostOps4 V main_v6 = unweave2 (V main_v1_0) := by
  after_results; rfl
/-- The third result is the second attention array laid out anew. -/
theorem tail_v7 (V : Valuation τ sig (Elt Ideal)) : StableHlo.after hostOps4 V main_v7 = unweave1 (V main_v3_0) := by
  after_results; rfl

/-- Where an entry of the second result lies in the first attention array. -/
theorem unweave2_ix3 (x : Vec Ideal S262144x128 .f32) (i j : Fin 4096) (k : Fin 2) : unweave2 x (Idealize.ShloMosaic.ix3 i j k)
    = x (Idealize.ShloMosaic.ix2 ⟨i.val * 64 + j.val / 128 * 2 + k.val, by omega⟩ ⟨j.val % 128, by omega⟩) := by
  unfold unweave2
  pointwise

/-- Where an entry of the third result lies in the second attention array. -/
theorem unweave1_ix3 (x : Vec Ideal S131072x128 .f32) (i j : Fin 4096) (k : Fin 1) : unweave1 x (Idealize.ShloMosaic.ix3 i j k)
    = x (Idealize.ShloMosaic.ix2 ⟨i.val * 32 + j.val / 128, by omega⟩ ⟨j.val % 128, by omega⟩) := by
  unfold unweave1
  pointwise

/-- Laid out anew, the interleaved coefficients are those of row, column and head. -/
theorem unweave2_woven2 (f : Fin 2 → Fin 4096 → Fin 4096 → ℝ) :
    unweave2 (woven2 f) = fun y => ((f (y 2) (y 0) (y 1) : ℝ) : EReal) := by
  refine cube_ext _ _ fun i j k => (unweave2_ix3 _ i j k).trans (woven2_at f _ k i j ?_ ?_ ?_)
  · show (i.val * 64 + j.val / 128 * 2 + k.val) % 2 = k.val
    omega
  · show (i.val * 64 + j.val / 128 * 2 + k.val) / 64 = i.val
    omega
  · show 128 * ((i.val * 64 + j.val / 128 * 2 + k.val) % 64 / 2) + j.val % 128 = j.val
    omega

/-- Laid out anew, the coefficients are those of row and column. -/
theorem unweave1_woven1 (f : Fin 4096 → Fin 4096 → ℝ) : unweave1 (woven1 f) = fun y => ((f (y 0) (y 1) : ℝ) : EReal) := by
  refine cube_ext _ _ fun i j k => (unweave1_ix3 _ i j k).trans (woven1_at f _ i j ?_ ?_)
  · show (i.val * 32 + j.val / 128) / 32 = i.val
    omega
  · show 128 * ((i.val * 32 + j.val / 128) % 32) + j.val % 128 = j.val
    omega

section Chain
variable (m : (ℓ : Loc nD τ sig) → Buf (Elt Ideal) ℓ) (c : Dev nD) (I : Inputs)
  (h : I.Are (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)))
include h

/-! ## After each launch -/

/-- After the first launch: the features. -/
theorem w1_v0_0 : V1 m c main_v0_0 = mat I.h1 := (W1_arr m c 4).trans (arr0_4 (V0 m) c _ _ h.h0 h.h2)
/-- After the first launch: the source scores. -/
theorem w1_v0_1 : V1 m c main_v0_1 = mat fun i k => I.s1 k i * log2e := (W1_arr m c 5).trans (arr0_5 (V0 m) c _ _ _ h.h0 h.h2 h.h3)
/-- After the first launch: the destination scores. -/
theorem w1_v0_2 : V1 m c main_v0_2 = mat fun k i => I.d1 k i * log2e := (W1_arr m c 6).trans (arr0_6 (V0 m) c _ _ _ h.h0 h.h2 h.h4)
/-- After the first launch: the adjacency matrix as given. -/
theorem w1_arg1 : V1 m c main_arg1 = mat I.A := (W1_args m c main_arg1 (by decide)).trans h.h1

/-- After the second launch: the first layer's coefficients. -/
theorem w2_v1_0 : V2 m c main_v1_0 = woven2 I.att1 :=
  (W2_arr m c 4).trans (arr1_4 (V1 m) c I.A I.s1 I.d1 (w1_arg1 m c I h) (w1_v0_1 m c I h) (w1_v0_2 m c I h))
/-- After the second launch: the first layer's result. -/
theorem w2_v1_1 : V2 m c main_v1_1 = mat I.g :=
  (W2_arr m c 5).trans (arr1_5 (V1 m) c I.A I.s1 I.d1 I.h1 (w1_arg1 m c I h) (w1_v0_1 m c I h) (w1_v0_2 m c I h) (w1_v0_0 m c I h))

/-- After the third launch: the second layer's features. -/
theorem w3_v2_0 : V3 m c main_v2_0 = mat I.h2 :=
  (W3_arr m c 4).trans (arr2_4 (V2 m) c _ _ (w2_v1_1 m c I h) ((W2_args m c main_arg5 (by decide)).trans h.h5))
/-- After the third launch: the source scores. -/
theorem w3_v2_1 : V3 m c main_v2_1 = mat fun i _ => I.s2 i * log2e := by
  refine (W3_arr m c 5).trans ((arr2_5 (V2 m) c _ _ _ (w2_v1_1 m c I h) ((W2_args m c main_arg5 (by decide)).trans h.h5)
    ((W2_args m c main_arg6 (by decide)).trans h.h6)).trans (congrArg mat (funext fun i => funext fun k => ?_)))
  rw [Subsingleton.elim k 0]; rfl
/-- After the third launch: the destination scores. -/
theorem w3_v2_2 : V3 m c main_v2_2 = mat fun _ j => I.d2 j * log2e := by
  refine (W3_arr m c 6).trans ((arr2_6 (V2 m) c _ _ _ (w2_v1_1 m c I h) ((W2_args m c main_arg5 (by decide)).trans h.h5)
    ((W2_args m c main_arg7 (by decide)).trans h.h7)).trans (congrArg mat (funext fun k => funext fun i => ?_)))
  rw [Subsingleton.elim k 0]; rfl
/-- After the third launch: the adjacency matrix as given. -/
theorem w3_arg1 : V3 m c main_arg1 = mat I.A := (W3_args m c main_arg1 (by decide)).trans h.h1

/-- After the fourth launch: the second layer's coefficients. -/
theorem w4_v3_0 : V4 m c main_v3_0 = woven1 I.att2 :=
  (W4_arr m c 4).trans (arr3_4 (V3 m) c I.A I.s2 I.d2 (w3_arg1 m c I h) (w3_v2_1 m c I h) (w3_v2_2 m c I h))
/-- After the fourth launch: the second layer's result, transposed. -/
theorem w4_v3_1 : V4 m c main_v3_1 = mat fun q i => I.out i q :=
  (W4_arr m c 5).trans (arr3_5 (V3 m) c I.A I.s2 I.d2 I.h2 (w3_arg1 m c I h) (w3_v2_1 m c I h) (w3_v2_2 m c I h) (w3_v2_0 m c I h))
/-- After the fourth launch: the first layer's coefficients still. -/
theorem w4_v1_0 : V4 m c main_v1_0 = woven2 I.att1 :=
  (W4_of m c main_v1_0 (by decide +kernel)).trans ((W3_of m c main_v1_0 (by decide +kernel)).trans (w2_v1_0 m c I h))

/-! ## The host operations at the end -/

/-- The kernel's first result. -/
theorem end_v8 : W5 m c main_v8 = mat I.out := by
  refine eq_mat _ _ fun i q => ?_
  have e : W5 m c main_v8 = (transpose S4096x64 [1, 0] · transposes_S64x4096_S4096x64_1_0) (V4 m c main_v3_1) := by
    after_results
  rw [e, w4_v3_1 m c I h]
  pointwise
  rfl

/-- The kernel's second result. -/
theorem end_v6 : W5 m c main_v6 = I.cube1 :=
  (tail_v6 (W4 m c)).trans ((congrArg unweave2 (w4_v1_0 m c I h)).trans (unweave2_woven2 I.att1))

/-- The kernel's third result. -/
theorem end_v7 : W5 m c main_v7 = I.cube2 :=
  (tail_v7 (W4 m c)).trans ((congrArg unweave1 (w4_v3_0 m c I h)).trans (unweave1_woven1 I.att2))

end Chain
end Cert.Gat

end
-- ==== Proof.ReferenceValue.lean ====
/- The reference's results over the extended reals, of arguments that hold reals: the same coefficients and rows. -/
module

public import proofs.«01_k».proof.Proof.Results
public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.Gat.Ref

open Cert.ReferenceIdeal Cert.ReferenceIdeal.Gen Cert.ReferenceIdeal.Value
open Idealize.ShloMosaic Idealize.ShloMosaic.TcCoe Idealize.ShloMosaic.StableHlo

/-! ## The softmax over the middle axis -/

/-- The greatest along the middle axis. -/
theorem fold_mid {n0 n1 n2 : ℕ} (x : FVec Ideal ⟨3, ![n0, n1, n2]⟩ .f32) (init : FVec Ideal S_ .f32)
    (h : (⟨3, ![n0, n1, n2]⟩ : Shape).ReducesTo [1] ⟨2, ![n0, n2]⟩) (i : Fin n0) (k : Fin n2) :
    Host.reduce (FloatOps.maximumf (F := Ideal) (φ := .f32)) x init h h_S_ (ix2 i k)
      = Finset.univ.fold max (init ix0) fun j : Fin n1 => x (ix3 i j k) := by
  pointwise
  congr 1
  exact congrArg init (Subsingleton.elim _ _)

/-- The exponential of scores less a row's number, the first layer's. -/
def exp1 (z : FVec Ideal S4096x4096x2 .f32) (M : FVec Ideal S4096x2 .f32) : FVec Ideal S4096x4096x2 .f32 :=
  Host.exp (subf z (broadcastInDim S4096x4096x2 ![0, 1, 2] bcast_S4096x1x2_S4096x4096x2_0_1_2 (broadcastInDim S4096x1x2 ![0, 2]
    bcast_S4096x2_S4096x1x2_0_2 (maximumf (broadcastInDim S4096x2 ![] bcast_S_S4096x2 (constant S_ .f32 0xFF800000#32)) M))))

/-- The exponential of scores less a row's number, the second layer's. -/
def exp2 (z : FVec Ideal S4096x4096x1 .f32) (M : FVec Ideal S4096x1 .f32) : FVec Ideal S4096x4096x1 .f32 :=
  Host.exp (subf z (broadcastInDim S4096x4096x1 ![0, 1, 2] bcast_S4096x1x1_S4096x4096x1_0_1_2 (broadcastInDim S4096x1x1 ![0, 2]
    bcast_S4096x1_S4096x1x1_0_2 (maximumf (broadcastInDim S4096x1 ![] bcast_S_S4096x1 (constant S_ .f32 0xFF800000#32)) M))))

/-- That exponential at an entry. -/
theorem exp1_at (z : FVec Ideal S4096x4096x2 .f32) (M : FVec Ideal S4096x2 .f32) (i j : Fin 4096) (k : Fin 2) :
    exp1 z M (ix3 i j k) = Ideal.exp (z (ix3 i j k) - max (Ideal.ofBits .f32 0xFF800000#32) (M (ix2 i k))) := by
  unfold exp1
  pointwise

/-- That exponential at an entry. -/
theorem exp2_at (z : FVec Ideal S4096x4096x1 .f32) (M : FVec Ideal S4096x1 .f32) (i j : Fin 4096) :
    exp2 z M (ix3 i j 0) = Ideal.exp (z (ix3 i j 0) - max (Ideal.ofBits .f32 0xFF800000#32) (M (ix2 i 0))) := by
  unfold exp2
  pointwise

/-- The first layer's numerators, of any scores. -/
def num1 (z : FVec Ideal S4096x4096x2 .f32) : FVec Ideal S4096x4096x2 .f32 :=
  exp1 z (Host.reduce FloatOps.maximumf z (constant S_ .f32 0xFF800000#32) reducesTo_S4096x4096x2_S4096x2_d1 h_S_)

/-- The second layer's numerators, of any scores. -/
def num2 (z : FVec Ideal S4096x4096x1 .f32) : FVec Ideal S4096x4096x1 .f32 :=
  exp2 z (Host.reduce FloatOps.maximumf z (constant S_ .f32 0xFF800000#32) reducesTo_S4096x4096x1_S4096x1_d1 h_S_)

/-- A numerator of the first layer from the scores of its row and head. -/
theorem num1_at (z : FVec Ideal S4096x4096x2 .f32) (i j : Fin 4096) (k : Fin 2) :
    num1 z (ix3 i j k) = refNum (fun x => z (ix3 i x k)) j :=
  (exp1_at z _ i j k).trans (congrArg (fun M => Ideal.exp (z (ix3 i j k) - max (Ideal.ofBits .f32 0xFF800000#32) M)) (fold_mid z _ _ i k))

/-- A numerator of the second layer from the scores of its row. -/
theorem num2_at (z : FVec Ideal S4096x4096x1 .f32) (i j : Fin 4096) :
    num2 z (ix3 i j 0) = refNum (fun x => z (ix3 i x 0)) j :=
  (exp2_at z _ i j).trans (congrArg (fun M => Ideal.exp (z (ix3 i j 0) - max (Ideal.ofBits .f32 0xFF800000#32) M)) (fold_mid z _ _ i 0))

/-- Numerators over their row's sum, the first layer's. -/
def quot1 (w : FVec Ideal S4096x4096x2 .f32) : FVec Ideal S4096x4096x2 .f32 :=
  Host.divf w (broadcastInDim S4096x4096x2 ![0, 1, 2] bcast_S4096x1x2_S4096x4096x2_0_1_2 (broadcastInDim S4096x1x2 ![0, 2]
    bcast_S4096x2_S4096x1x2_0_2 (Host.reduceAdd w (constant S_ .f32 0x00000000#32) reducesTo_S4096x4096x2_S4096x2_d1 h_S_)))

/-- Numerators over their row's sum, the second layer's. -/
def quot2 (w : FVec Ideal S4096x4096x1 .f32) : FVec Ideal S4096x4096x1 .f32 :=
  Host.divf w (broadcastInDim S4096x4096x1 ![0, 1, 2] bcast_S4096x1x1_S4096x4096x1_0_1_2 (broadcastInDim S4096x1x1 ![0, 2]
    bcast_S4096x1_S4096x1x1_0_2 (Host.reduceAdd w (constant S_ .f32 0x00000000#32) reducesTo_S4096x4096x1_S4096x1_d1 h_S_)))

/-- That quotient at an entry. -/
theorem quot1_at (w : FVec Ideal S4096x4096x2 .f32) (i j : Fin 4096) (k : Fin 2) :
    quot1 w (ix3 i j k) = Ideal.div (w (ix3 i j k)) (∑ x, w (ix3 i x k)) := by
  unfold quot1
  pointwise

/-- That quotient at an entry. -/
theorem quot2_at (w : FVec Ideal S4096x4096x1 .f32) (i j : Fin 4096) :
    quot2 w (ix3 i j 0) = Ideal.div (w (ix3 i j 0)) (∑ x, w (ix3 i x 0)) := by
  unfold quot2
  pointwise

/-- The first layer's softmax at an entry. -/
theorem soft1_at (z : FVec Ideal S4096x4096x2 .f32) (i j : Fin 4096) (k : Fin 2) :
    quot1 (num1 z) (ix3 i j k) = refAt (fun x => z (ix3 i x k)) j := by
  rw [quot1_at]; simp only [num1_at]; rfl

/-- The second layer's softmax at an entry. -/
theorem soft2_at (z : FVec Ideal S4096x4096x1 .f32) (i j : Fin 4096) :
    quot2 (num2 z) (ix3 i j 0) = refAt (fun x => z (ix3 i x 0)) j := by
  rw [quot2_at]; simp only [num2_at]; rfl

variable (V : Valuation τ sig (Elt Ideal))

/-- The reference's first numerators. -/
theorem v26_eq : res_main_v26 V = num1 (res_main_v19 V) := rfl
/-- The reference's second numerators. -/
theorem v61_eq : res_main_v61 V = num2 (res_main_v54 V) := rfl

section Values
variable (I : Inputs)
  (h : I.Are (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7)))
include h

/-! ## The first layer -/

/-- The first layer's features, head by head. -/
theorem v1_at (i : Fin 4096) (k : Fin 2) (d : Fin 64) : res_main_v1 V (ix3 i k d) = ((head I.h1 k i d : ℝ) : EReal) := by
  unfold res_main_v1
  clean_types
  pointwise
  rw [h.h0, h.h2]
  simp only [mat_ix2, coe_sum_mul]
  refine congrArg _ (Finset.sum_congr rfl fun f _ => congrArg (fun q => I.X i f * I.W1 f q) (Fin.ext (?_ : k.val * 64 + d.val = 64 * k.val + d.val)))
  omega

/-- The first layer's scores. -/
theorem v10_at (i j : Fin 4096) (k : Fin 2) : res_main_v10 V (ix3 i j k) = ((I.s1 k i + I.d1 k j : ℝ) : EReal) := by
  unfold res_main_v10
  clean_types
  pointwise
  rw [h.h3, h.h4]
  simp only [v1_at V I h, mat_ix2, coe_sum_mul, ← EReal.coe_add]
  simp only [mul_comm (I.src1 k _), mul_comm (I.dst1 k _)]
  rfl

/-- The first layer's rectified scores, filled where there is no edge. -/
theorem v19_at (i j : Fin 4096) (k : Fin 2) : res_main_v19 V (ix3 i j k)
    = refScore (fun j => (I.A i j : EReal)) (fun j => ((I.s1 k i + I.d1 k j : ℝ) : EReal)) j := by
  unfold res_main_v19 res_main_v13
  clean_types
  pointwise
  rw [h.h1]
  simp only [v10_at V I h, mat_ix2]
  rfl

/-- The first layer's coefficients: the reference's second result. -/
theorem v30_eq : quot1 (res_main_v26 V) = I.cube1 := by
  refine cube_ext _ _ fun i j k => ?_
  rw [v26_eq, soft1_at]
  simp only [v19_at V I h]
  exact refAt_coe (I.A i) (fun j => I.s1 k i + I.d1 k j) (I.bit i) j

/-- The first layer's averaged features, the heads side by side. -/
theorem v33_at (i : Fin 4096) (q : Fin 128) : res_main_v33 V (ix2 i q) = ((mix (I.att1 (headOf q)) I.h1 i q : ℝ) : EReal) := by
  have e : res_main_v33 V = shapeCast S4096x128 (transpose S4096x2x64 [2, 0, 1]
      (Host.dotGeneral dot_S4096x2x64_S4096x4096x2_S2x64x4096_0_1_2_0_1_2 none (res_main_v1 V) (quot1 (res_main_v26 V)))
      transposes_S2x64x4096_S4096x2x64_2_0_1) shapeCasts_S4096x2x64_S4096x128 := rfl
  rw [e, v30_eq V I h]
  clean_types
  pointwise
  simp only [v1_at V I h]
  exact (Finset.sum_congr rfl fun x _ => mul_comm _ _).trans ((coe_sum_mul _ _).trans (congrArg _ (Finset.sum_congr rfl fun x _ =>
    congrArg (fun p => I.att1 (headOf q) i x * I.h1 x p) (Fin.ext (Nat.div_add_mod q.val 64)))))

/-! ## The second layer -/

/-- The second layer's features of the activated first layer. -/
theorem v36_at (i : Fin 4096) (q : Fin 64) : res_main_v36 V (ix3 i 0 q) = ((I.h2 i q : ℝ) : EReal) := by
  unfold res_main_v36
  clean_types
  pointwise
  rw [h.h5]
  simp only [v33_at V I h, mat_ix2]
  refine (Finset.sum_congr rfl fun x _ => ?_).trans (coe_sum_mul (fun x => I.g i x) fun x => I.W2 x q)
  refine congrArg (· * (I.W2 x q : EReal)) ?_
  unfold Inputs.g elu
  simp only [EReal.coe_pos]
  by_cases hx : 0 < mix (I.att1 (headOf x)) I.h1 i x
  · rw [if_pos hx, if_pos hx]
  · rw [if_neg hx, if_neg hx, if_neg hx, Ideal.exp_coe, EReal.coe_sub, EReal.coe_one]

/-- The second layer's scores. -/
theorem v45_at (i j : Fin 4096) : res_main_v45 V (ix3 i j 0) = ((I.s2 i + I.d2 j : ℝ) : EReal) := by
  unfold res_main_v45
  clean_types
  pointwise
  rw [h.h6, h.h7]
  simp only [v36_at V I h, mat_ix2, coe_sum_mul, ← EReal.coe_add]
  simp only [mul_comm (I.src2 0 _), mul_comm (I.dst2 0 _)]
  rfl

/-- The second layer's rectified scores, filled where there is no edge. -/
theorem v54_at (i j : Fin 4096) : res_main_v54 V (ix3 i j 0)
    = refScore (fun j => (I.A i j : EReal)) (fun j => ((I.s2 i + I.d2 j : ℝ) : EReal)) j := by
  unfold res_main_v54 res_main_v48
  clean_types
  pointwise
  rw [h.h1]
  simp only [v45_at V I h, mat_ix2]
  rfl

/-- The second layer's coefficients: the reference's third result. -/
theorem v65_eq : quot2 (res_main_v61 V) = I.cube2 := by
  refine cube_ext _ _ fun i j k => ?_
  rw [Subsingleton.elim k 0, v61_eq, soft2_at]
  simp only [v54_at V I h]
  exact refAt_coe (I.A i) (fun j => I.s2 i + I.d2 j) (I.bit i) j

/-- The reference's first result. -/
theorem v70_eq : Host.divf (Host.reduceAdd (transpose S4096x1x64 [2, 0, 1]
      (Host.dotGeneral (F := Ideal) (φ₁ := .f32) (φ₂ := .f32) dot_S4096x1x64_S4096x4096x1_S1x64x4096_0_1_2_0_1_2 none (res_main_v36 V) (quot2 (res_main_v61 V)))
      transposes_S1x64x4096_S4096x1x64_2_0_1) (constant S_ .f32 0x00000000#32) reducesTo_S4096x1x64_S4096x64_d1 h_S_)
      (broadcastInDim S4096x64 ![] bcast_S_S4096x64 (constant S_ .f32 0x3F800000#32)) = mat I.out := by
  refine eq_mat _ _ fun i q => ?_
  rw [v65_eq V I h]
  clean_types
  pointwise
  simp only [v36_at V I h]
  have e : ∑ x, ((I.h2 x q : ℝ) : EReal) * I.cube2 (ix3 i x 0) = ((I.out i q : ℝ) : EReal) :=
    (Finset.sum_congr rfl fun x _ => mul_comm _ _).trans (coe_sum_mul _ _)
  rw [e, Fin.sum_const, one_smul, ← EReal.coe_one, div_reals _ _ one_ne_zero, div_one]

end Values

end Cert.Gat.Ref

end
-- ==== Proof.Algebraic.lean ====
/- The kernel and the reference over the extended reals: of a graph's arguments they return equal arrays. -/
module

public import proofs.«01_k».proof.Defs
public import proofs.«01_k».proof.Proof.KernelValue
public import proofs.«01_k».proof.Proof.ReferenceValue
public import proofs.«01_k».proof.Proof.Frames
public import proofs.«01_k».proof.Proof.Gen.Pre_graph
public import Idealize.ShloMosaic.Lib.ReduceAll
public import Idealize.ShloMosaic.Lib.Affine

@[expose] public section

set_option maxRecDepth 16384

noncomputable section

namespace Cert.Gat

open Idealize.ShloMosaic Idealize.ShloMosaic.TcCoe Idealize.SL.Sem

/-! ## What the precondition says -/

section Graph
open Cert.Pre_graph Cert.Pre_graph.Gen

/-- The real numbers of an array. -/
def reals {a b : ℕ} (x : Vec Ideal ⟨2, ![a, b]⟩ .f32) (i : Fin a) (j : Fin b) : ℝ := (x (ix2 i j) : EReal).toReal

/-- The word of +∞ is the greatest extended real. -/
theorem bits_inf : Ideal.ofBits .f32 0x7F800000#32 = ⊤ := by simp [Ideal.ofBits, Ideal.ieee]
/-- The word of 1 is 1. -/
theorem bits_one : Ideal.ofBits .f32 0x3F800000#32 = 1 := by
  rw [← EReal.coe_one]; simp [Ideal.ofBits, Ideal.ieee, -EReal.coe_mul, -EReal.coe_one]; norm_num
/-- The word of 0 is 0. -/
theorem bits_zero : Ideal.ofBits .f32 0x00000000#32 = 0 := by simp [Ideal.ofBits, Ideal.ieee]

/-- An extended real whose absolute value is below +∞ is a real. -/
theorem real_of_abs (x : EReal) (h : max x (-x) < ⊤) : x = (x.toReal : EReal) := by
  refine (EReal.coe_toReal ?_ ?_).symm
  · rintro rfl; simp at h
  · rintro rfl; simp at h

/-- A decided bit that is 1 says its proposition holds. -/
theorem of_bit (p : Prop) [Decidable p] (h : BitVec.ofBool (decide p) = 1#1) : p := by
  by_contra hn
  rw [decide_eq_false hn] at h
  exact absurd h (by decide)

/-- An array all of whose absolute values are below +∞ is an array of reals. -/
theorem finite_of_all {a b : ℕ} (v : FVec Ideal ⟨2, ![a, b]⟩ .f32) (hb : S_.BroadcastsInDim ⟨2, ![a, b]⟩ ![])
    (hr : (⟨2, ![a, b]⟩ : Shape).ReducesTo [0, 1] S_) (y : S_.Idx)
    (h : Host.reduce IntOp.andi (cmpf .olt (Host.absf v) (broadcastInDim ⟨2, ![a, b]⟩ ![] hb (constant S_ .f32 0x7F800000#32)))
      (constantI S_ 1 1#1) hr h_S_ y = 1#1) : v = mat (reals v) := by
  refine eq_mat _ _ fun i j => real_of_abs _ ?_
  have e := of_bit _ (Host.reduce_andi_all _ _ _ _ y h (ix2 i j))
  rw [← bits_inf]
  exact e

/-- An array all of whose entries are 0 or 1 is an array of the reals 0 and 1. -/
theorem bits_of_all (v : FVec Ideal S4096x4096 .f32) (y : S_.Idx)
    (h : Host.reduce IntOp.andi (ori (cmpf .oeq v (broadcastInDim S4096x4096 ![] bcast_S_S4096x4096 (constant S_ .f32 0x00000000#32)))
      (cmpf .oeq v (broadcastInDim S4096x4096 ![] bcast_S_S4096x4096 (constant S_ .f32 0x3F800000#32)))) (constantI S_ 1 1#1)
      reducesTo_S4096x4096_S_d0_1 h_S_ y = 1#1) (i j : Fin 4096) : (v (ix2 i j) : EReal) = 0 ∨ (v (ix2 i j) : EReal) = 1 := by
  have e := Host.reduce_andi_all _ _ _ _ y h (ix2 i j)
  rw [← bits_zero, ← bits_one]
  exact (IntOp.ori_eq_one.mp e).imp (of_bit _) (of_bit _)

/-- The arguments of a graph hold real numbers, those of the adjacency matrix 0 and 1. -/
theorem inputs_of_graph (x0 : FVec Ideal S4096x128 .f32) (x1 : FVec Ideal S4096x4096 .f32) (x2 : FVec Ideal S128x128 .f32)
    (x3 x4 : FVec Ideal S2x64 .f32) (x5 : FVec Ideal S128x64 .f32) (x6 x7 : FVec Ideal S1x64 .f32)
    (h : Cert.Pre_graph.fn (F := Ideal) x0 x1 x2 x3 x4 x5 x6 x7 = fun _ => 1#1) : ∃ I : Inputs, I.Are x0 x1 x2 x3 x4 x5 x6 x7 := by
  have e := congrFun h ix0
  unfold fn fn_part1 fn_part2 at e
  obtain ⟨e, e1⟩ := IntOp.andi_eq_one.mp e
  obtain ⟨e, e7⟩ := IntOp.andi_eq_one.mp e
  obtain ⟨e, e6⟩ := IntOp.andi_eq_one.mp e
  obtain ⟨e, e5⟩ := IntOp.andi_eq_one.mp e
  obtain ⟨e, e4⟩ := IntOp.andi_eq_one.mp e
  obtain ⟨e, e3⟩ := IntOp.andi_eq_one.mp e
  obtain ⟨e0, e2⟩ := IntOp.andi_eq_one.mp e
  have hb := bits_of_all x1 _ e1
  have hr : ∀ i j, reals x1 i j = 0 ∨ reals x1 i j = 1 := fun i j => by
    unfold reals
    rcases hb i j with h | h <;> rw [h] <;> simp
  refine ⟨⟨reals x0, reals x1, reals x2, reals x3, reals x4, reals x5, reals x6, reals x7, hr⟩, ⟨finite_of_all x0 _ _ _ e0, ?_,
    finite_of_all x2 _ _ _ e2, finite_of_all x3 _ _ _ e3, finite_of_all x4 _ _ _ e4, finite_of_all x5 _ _ _ e5,
    finite_of_all x6 _ _ _ e6, finite_of_all x7 _ _ _ e7⟩⟩
  refine eq_mat _ _ fun i j => ?_
  show _ = ((reals x1 i j : ℝ) : EReal)
  unfold reals
  rcases hb i j with h | h <;> rw [h] <;> simp

end Graph

/-! ## The two runs -/

/-- The kernel's run from arguments that hold the reals of `I c`: the results are their coefficients and rows, the arguments unchanged. -/
theorem kernel_run (m : (ℓ : Loc Cert.KernelIdeal.nD Cert.KernelIdeal.τ Cert.KernelIdeal.sig) → Buf (Elt Ideal) ℓ)
    (ρ : Dev Cert.KernelIdeal.nD → PrngReg) (I : Dev Cert.KernelIdeal.nD → Inputs)
    (hI : open Cert.KernelIdeal in ∀ c : Dev nD, (I c).Are (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))) :
    open Cert.KernelIdeal in
    θ_run (defs (F := Ideal)) (onTc (τ := τ) (main (F := Ideal))) ⟨m, fun _ => 0, ρ⟩ (fun r => ∀ c : Dev nD,
      r.2.mem ((c.tc : Thread nD τ).loc main_v8) = mat (I c).out
      ∧ r.2.mem ((c.tc : Thread nD τ).loc main_v6) = (I c).cube1
      ∧ r.2.mem ((c.tc : Thread nD τ).loc main_v7) = (I c).cube2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run Cert.KernelIdeal.defs _ _).mono (fun r h c =>
    have key : ∀ a ∈ argRefs, ¬ (Proc.devRef .tc a : DevRef Cert.KernelIdeal.τ Cert.KernelIdeal.sig).isScoped →
        r.2.mem ((c.tc : Thread _ _).loc a) = m ((c.tc : Thread _ _).loc a) :=
      fun a ha hs => (mem_of_run m h.1 c a hs).trans (W5_args m c a ha)
    ⟨(mem_of_run m h.1 c Cert.KernelIdeal.main_v8 (by decide)).trans (end_v8 m c (I c) (hI c)),
      (mem_of_run m h.1 c Cert.KernelIdeal.main_v6 (by decide)).trans (end_v6 m c (I c) (hI c)),
      (mem_of_run m h.1 c Cert.KernelIdeal.main_v7 (by decide)).trans (end_v7 m c (I c) (hI c)),
      key _ (by decide) (by decide), key _ (by decide) (by decide), key _ (by decide) (by decide), key _ (by decide) (by decide),
      key _ (by decide) (by decide), key _ (by decide) (by decide), key _ (by decide) (by decide), key _ (by decide) (by decide)⟩)
    (run_main m ρ)

/-- The reference's run from the same arguments: the same results. -/
theorem reference_run (m : (ℓ : Loc Cert.ReferenceIdeal.nD Cert.ReferenceIdeal.τ Cert.ReferenceIdeal.sig) → Buf (Elt Ideal) ℓ)
    (ρ : Dev Cert.ReferenceIdeal.nD → PrngReg) (I : Dev Cert.ReferenceIdeal.nD → Inputs)
    (hI : open Cert.ReferenceIdeal in ∀ c : Dev nD, (I c).Are (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))) :
    open Cert.ReferenceIdeal in
    θ_run (defs (F := Ideal)) (onTc (τ := τ) (main (F := Ideal))) ⟨m, fun _ => 0, ρ⟩ (fun r => ∀ c : Dev nD,
      r.2.mem ((c.tc : Thread nD τ).loc main_v70) = mat (I c).out
      ∧ r.2.mem ((c.tc : Thread nD τ).loc main_v30) = (I c).cube1
      ∧ r.2.mem ((c.tc : Thread nD τ).loc main_v65) = (I c).cube2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run Cert.ReferenceIdeal.defs _ _).mono (fun r h c =>
    ⟨(h c).1.trans (Ref.v70_eq (StableHlo.launchContents m c) (I c) (hI c)), (h c).2.1.trans (Ref.v30_eq (StableHlo.launchContents m c) (I c) (hI c)),
      (h c).2.2.1.trans (Ref.v65_eq (StableHlo.launchContents m c) (I c) (hI c)), (h c).2.2.2⟩)
    (Cert.ReferenceIdeal.Value.run (F := Ideal) m ρ)

/-- Of a graph's arguments the kernel and the reference return equal arrays. -/
theorem equal_results : Cert.algebraic_KernelIdeal_ReferenceIdeal_pre_graph := by
  intro m ρ m' ρ' hpre hargs
  choose I hI using fun c => inputs_of_graph _ _ _ _ _ _ _ _ (hpre c)
  refine ⟨fun c => mat (I c).out, fun c => (I c).cube1, fun c => (I c).cube2, kernel_run m ρ I hI, reference_run m' ρ' I fun c => ?_⟩
  obtain ⟨h0, h1, h2, h3, h4, h5, h6, h7⟩ := hargs c
  exact ⟨h0.trans (hI c).h0, h1.trans (hI c).h1, h2.trans (hI c).h2, h3.trans (hI c).h3, h4.trans (hI c).h4, h5.trans (hI c).h5,
    h6.trans (hI c).h6, h7.trans (hI c).h7⟩

end Cert.Gat

end
-- ==== Proof.lean ====
/- The certificate's claims, assembled: the frames and the named constant from `Frames`, the equal results from `Algebraic`. -/
module

public import proofs.«01_k».proof.Defs
public import proofs.«01_k».proof.Proof.Frames
public import proofs.«01_k».proof.Proof.Algebraic

@[expose] public section

noncomputable section

namespace Cert.Proof

open Idealize.ShloMosaic Idealize.SL.Sem

/-- Every claim: the three frames, those under the precondition, the named constant, and the equal results. -/
theorem claim : Cert.Claim :=
  ⟨Cert.Kernel.Gen.facts, Cert.KernelIdeal.Gen.facts, Cert.ReferenceIdeal.Gen.facts, Cert.Pre_graph.Gen.facts,
    Cert.Gat.frame_kernel, Cert.Gat.frame_ideal, Cert.Gat.frame_ideal_pre, Cert.Gat.frame_reference, Cert.Gat.frame_reference_pre,
    Cert.Gat.named_log2e, Cert.Gat.equal_results⟩

end Cert.Proof

end
